-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def preserves_Kernel_KernelIdeal : Prop :=
  IdealRules.named_const.Statement Cert.KernelIdeal.κ "inv_sqrt_qk" .f32 0x3E3504F3#32 (((Real.sqrt 32)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_v15) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x128x128 : Shape := ⟨3, ![16, 128, 128]⟩
abbrev S128x64 : Shape := ⟨2, ![128, 64]⟩
abbrev S64 : Shape := ⟨1, ![64]⟩
abbrev S128x32 : Shape := ⟨2, ![128, 32]⟩
abbrev S32 : Shape := ⟨1, ![32]⟩
abbrev S64x128 : Shape := ⟨2, ![64, 128]⟩
abbrev S128 : Shape := ⟨1, ![128]⟩
abbrev S32x1 : Shape := ⟨2, ![32, 1]⟩
abbrev S1 : Shape := ⟨1, ![1]⟩
abbrev S128x128 : Shape := ⟨2, ![128, 128]⟩
abbrev S1x64 : Shape := ⟨2, ![1, 64]⟩
abbrev S1x32 : Shape := ⟨2, ![1, 32]⟩
abbrev S1x128 : Shape := ⟨2, ![1, 128]⟩
abbrev S1x1 : Shape := ⟨2, ![1, 1]⟩
abbrev S16x128x64 : Shape := ⟨3, ![16, 128, 64]⟩
abbrev S2048x128 : Shape := ⟨2, ![2048, 128]⟩
abbrev S2048x64 : Shape := ⟨2, ![2048, 64]⟩
abbrev S2048x32 : Shape := ⟨2, ![2048, 32]⟩
abbrev S1x128x128 : Shape := ⟨3, ![1, 128, 128]⟩
abbrev S1x1x128 : Shape := ⟨3, ![1, 1, 128]⟩
abbrev S16x128x128x1 : Shape := ⟨4, ![16, 128, 128, 1]⟩
abbrev S16x128x1 : Shape := ⟨3, ![16, 128, 1]⟩
abbrev S64x32 : Shape := ⟨2, ![64, 32]⟩
abbrev S16x128x32 : Shape := ⟨3, ![16, 128, 32]⟩
abbrev S32x128 : Shape := ⟨2, ![32, 128]⟩
abbrev S1x32x128 : Shape := ⟨3, ![1, 32, 128]⟩
abbrev S16x32x128 : Shape := ⟨3, ![16, 32, 128]⟩
abbrev S16x1x128 : Shape := ⟨3, ![16, 1, 128]⟩
abbrev S1x1x1 : Shape := ⟨3, ![1, 1, 1]⟩
abbrev S16x128 : Shape := ⟨2, ![16, 128]⟩

abbrev nBuf : Space → Nat
  | .hbm => 27
  | .vmem => 19
  | .smem => 0
  | _ => 0

abbrev bufTy : (tb : Table) → Fin (tcTables nBuf tb) → BufTy
  | .hbm, ⟨0, _⟩ => ⟨S16x128x128, .f32⟩
  | .hbm, ⟨1, _⟩ => ⟨S128x64, .f32⟩
  | .hbm, ⟨2, _⟩ => ⟨S64, .f32⟩
  | .hbm, ⟨3, _⟩ => ⟨S128x32, .f32⟩
  | .hbm, ⟨4, _⟩ => ⟨S32, .f32⟩
  | .hbm, ⟨5, _⟩ => ⟨S64x128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S128x32, .f32⟩
  | .hbm, ⟨10, _⟩ => ⟨S32, .f32⟩
  | .hbm, ⟨11, _⟩ => ⟨S32x1, .f32⟩
  | .hbm, ⟨12, _⟩ => ⟨S1, .f32⟩
  | .hbm, ⟨13, _⟩ => ⟨S128x128, .f32⟩
  | .hbm, ⟨14, _⟩ => ⟨S128, .f32⟩
  | .hbm, ⟨15, _⟩ => ⟨S128x64, .f32⟩
  | .hbm, ⟨16, _⟩ => ⟨S64, .f32⟩
  | .hbm, ⟨17, _⟩ => ⟨S1x64, .f32⟩
  | .hbm, ⟨18, _⟩ => ⟨S1x32, .f32⟩
  | .hbm, ⟨19, _⟩ => ⟨S1x128, .f32⟩
  | .hbm, ⟨20, _⟩ => ⟨S1x64, .f32⟩
  | .hbm, ⟨21, _⟩ => ⟨S1x32, .f32⟩
  | .hbm, ⟨22, _⟩ => ⟨S1x1, .f32⟩
  | .hbm, ⟨23, _⟩ => ⟨S1x128, .f32⟩
  | .hbm, ⟨24, _⟩ => ⟨S1x64, .f32⟩
  | .hbm, ⟨25, _⟩ => ⟨S16x128x64, .f32⟩
  | .hbm, ⟨26, _⟩ => ⟨S16x128x128, .f32⟩
  | .local _ .vmem, ⟨0, _⟩ => ⟨S16x128x128, .f32⟩
  | .local _ .vmem, ⟨1, _⟩ => ⟨S128x64, .f32⟩
  | .local _ .vmem, ⟨2, _⟩ => ⟨S1x64, .f32⟩
  | .local _ .vmem, ⟨3, _⟩ => ⟨S128x32, .f32⟩
  | .local _ .vmem, ⟨4, _⟩ => ⟨S1x32, .f32⟩
  | .local _ .vmem, ⟨5, _⟩ => ⟨S64x128, .f32⟩
  | .local _ .vmem, ⟨6, _⟩ => ⟨S1x128, .f32⟩
  | .local _ .vmem, ⟨7, _⟩ => ⟨S128x64, .f32⟩
  | .local _ .vmem, ⟨8, _⟩ => ⟨S1x64, .f32⟩
  | .local _ .vmem, ⟨9, _⟩ => ⟨S128x32, .f32⟩
  | .local _ .vmem, ⟨10, _⟩ => ⟨S1x32, .f32⟩
  | .local _ .vmem, ⟨11, _⟩ => ⟨S32x1, .f32⟩
  | .local _ .vmem, ⟨12, _⟩ => ⟨S1x1, .f32⟩
  | .local _ .vmem, ⟨13, _⟩ => ⟨S128x128, .f32⟩
  | .local _ .vmem, ⟨14, _⟩ => ⟨S1x128, .f32⟩
  | .local _ .vmem, ⟨15, _⟩ => ⟨S128x64, .f32⟩
  | .local _ .vmem, ⟨16, _⟩ => ⟨S1x64, .f32⟩
  | .local _ .vmem, ⟨17, _⟩ => ⟨S16x128x64, .f32⟩
  | .local _ .vmem, ⟨18, _⟩ => ⟨S16x128x128, .f32⟩
  | _, _ => ⟨S16x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8_0 : Ref sig .tc := ⟨.hbm, 25, rfl⟩
abbrev main_v8_1 : Ref sig .tc := ⟨.hbm, 26, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S16x128x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x32 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S32x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S128x64 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x64 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S16x128x64 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![true]

abbrev stage0_18 : Fin 1 → Memref sig .tc .vmem S16x128x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![true]
-- ==== KernelIdeal.lean ====
variable {F : FTy → Type} [FloatOps F] [Named F]
def κ : String → Option EReal := fun
  | "inv_sqrt_qk" => some (((Real.sqrt 32)⁻¹ : ℝ) : EReal)
  | _ => none
-- ==== ReferenceIdeal.lean ====
abbrev S16x128x128 : Shape := ⟨3, ![16, 128, 128]⟩
abbrev S128x64 : Shape := ⟨2, ![128, 64]⟩
abbrev S64 : Shape := ⟨1, ![64]⟩
abbrev S128x32 : Shape := ⟨2, ![128, 32]⟩
abbrev S32 : Shape := ⟨1, ![32]⟩
abbrev S64x128 : Shape := ⟨2, ![64, 128]⟩
abbrev S128 : Shape := ⟨1, ![128]⟩
abbrev S32x1 : Shape := ⟨2, ![32, 1]⟩
abbrev S1 : Shape := ⟨1, ![1]⟩
abbrev S128x128 : Shape := ⟨2, ![128, 128]⟩
abbrev S16x128x64 : Shape := ⟨3, ![16, 128, 64]⟩
abbrev S1x1x64 : Shape := ⟨3, ![1, 1, 64]⟩
abbrev S_ : Shape := ⟨0, ![]⟩
abbrev S16x128x32 : Shape := ⟨3, ![16, 128, 32]⟩
abbrev S1x1x32 : Shape := ⟨3, ![1, 1, 32]⟩
abbrev S16x32x128 : Shape := ⟨3, ![16, 32, 128]⟩
abbrev S16x128x32x1 : Shape := ⟨4, ![16, 128, 32, 1]⟩
abbrev S1x1x1x128 : Shape := ⟨4, ![1, 1, 1, 128]⟩
abbrev S16x128x32x128 : Shape := ⟨4, ![16, 128, 32, 128]⟩
abbrev S1x1x128 : Shape := ⟨3, ![1, 1, 128]⟩
abbrev S16x1x128x64 : Shape := ⟨4, ![16, 1, 128, 64]⟩
abbrev S16x128x128x64 : Shape := ⟨4, ![16, 128, 128, 64]⟩
abbrev S16x128x1x64 : Shape := ⟨4, ![16, 128, 1, 64]⟩
abbrev S16x128x128x128 : Shape := ⟨4, ![16, 128, 128, 128]⟩
abbrev S16x128x128x32 : Shape := ⟨4, ![16, 128, 128, 32]⟩
abbrev S1x1x1x32 : Shape := ⟨4, ![1, 1, 1, 32]⟩
abbrev S16x128x128x1 : Shape := ⟨4, ![16, 128, 128, 1]⟩
abbrev S1x1x1x1 : Shape := ⟨4, ![1, 1, 1, 1]⟩
abbrev S16x128 : Shape := ⟨2, ![16, 128]⟩
abbrev S16x128x1 : Shape := ⟨3, ![16, 128, 1]⟩

abbrev nBuf : Space → Nat
  | .hbm => 116
  | .vmem => 0
  | .smem => 0
  | _ => 0

abbrev bufTy : (tb : Table) → Fin (tcTables nBuf tb) → BufTy
  | .hbm, ⟨0, _⟩ => ⟨S16x128x128, .f32⟩
  | .hbm, ⟨1, _⟩ => ⟨S128x64, .f32⟩
  | .hbm, ⟨2, _⟩ => ⟨S64, .f32⟩
  | .hbm, ⟨3, _⟩ => ⟨S128x32, .f32⟩
  | .hbm, ⟨4, _⟩ => ⟨S32, .f32⟩
  | .hbm, ⟨5, _⟩ => ⟨S64x128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S128x32, .f32⟩
  | .hbm, ⟨10, _⟩ => ⟨S32, .f32⟩
  | .hbm, ⟨11, _⟩ => ⟨S32x1, .f32⟩
  | .hbm, ⟨12, _⟩ => ⟨S1, .f32⟩
  | .hbm, ⟨13, _⟩ => ⟨S128x128, .f32⟩
  | .hbm, ⟨14, _⟩ => ⟨S128, .f32⟩
  | .hbm, ⟨15, _⟩ => ⟨S128x64, .f32⟩
  | .hbm, ⟨16, _⟩ => ⟨S64, .f32⟩
  | .hbm, ⟨17, _⟩ => ⟨S16x128x64, .f32⟩
  | .hbm, ⟨18, _⟩ => ⟨S1x1x64, .f32⟩
  | .hbm, ⟨19, _⟩ => ⟨S16x128x64, .f32⟩
  | .hbm, ⟨20, _⟩ => ⟨S16x128x64, .f32⟩
  | .hbm, ⟨21, _⟩ => ⟨S_, .f32⟩
  | .hbm, ⟨22, _⟩ => ⟨S16x128x64, .f32⟩
  | .hbm, ⟨23, _⟩ => ⟨S16x128x64, .f32⟩
  | .hbm, ⟨24, _⟩ => ⟨S16x128x32, .f32⟩
  | .hbm, ⟨25, _⟩ => ⟨S1x1x32, .f32⟩
  | .hbm, ⟨26, _⟩ => ⟨S16x128x32, .f32⟩
  | .hbm, ⟨27, _⟩ => ⟨S16x128x32, .f32⟩
  | .hbm, ⟨28, _⟩ => ⟨S16x32x128, .f32⟩
  | .hbm, ⟨29, _⟩ => ⟨S16x128x128, .f32⟩
  | .hbm, ⟨30, _⟩ => ⟨S_, .f32⟩
  | .hbm, ⟨31, _⟩ => ⟨S_, .f32⟩
  | .hbm, ⟨32, _⟩ => ⟨S16x128x128, .f32⟩
  | .hbm, ⟨33, _⟩ => ⟨S16x128x128, .f32⟩
  | .hbm, ⟨34, _⟩ => ⟨S16x128x32, .f32⟩
  | .hbm, ⟨35, _⟩ => ⟨S16x128x32, .i32⟩
  | .hbm, ⟨36, _⟩ => ⟨S16x128x32x1, .i32⟩
  | .hbm, ⟨37, _⟩ => ⟨S1x1x1x128, .i32⟩
  | .hbm, ⟨38, _⟩ => ⟨S16x128x32x128, .i32⟩
  | .hbm, ⟨39, _⟩ => ⟨S16x128x32x128, .i32⟩
  | .hbm, ⟨40, _⟩ => ⟨S16x128x32x128, .i1⟩
  | .hbm, ⟨41, _⟩ => ⟨S16x128x32x128, .f32⟩
  | .hbm, ⟨42, _⟩ => ⟨S_, .f32⟩
  | .hbm, ⟨43, _⟩ => ⟨S16x128x128, .f32⟩
  | .hbm, ⟨44, _⟩ => ⟨S16x128x128, .f32⟩
  | .hbm, ⟨45, _⟩ => ⟨S1x1x128, .f32⟩
  | .hbm, ⟨46, _⟩ => ⟨S16x128x128, .f32⟩
  | .hbm, ⟨47, _⟩ => ⟨S16x128x128, .f32⟩
  | .hbm, ⟨48, _⟩ => ⟨S_, .f32⟩
  | .hbm, ⟨49, _⟩ => ⟨S16x128x128, .f32⟩
  | .hbm, ⟨50, _⟩ => ⟨S16x128x128, .f32⟩
  | .hbm, ⟨51, _⟩ => ⟨S16x128x64, .f32⟩
  | .hbm, ⟨52, _⟩ => ⟨S1x1x64, .f32⟩
  | .hbm, ⟨53, _⟩ => ⟨S16x128x64, .f32⟩
  | .hbm, ⟨54, _⟩ => ⟨S16x128x64, .f32⟩
  | .hbm, ⟨55, _⟩ => ⟨S_, .f32⟩
  | .hbm, ⟨56, _⟩ => ⟨S16x128x64, .f32⟩
  | .hbm, ⟨57, _⟩ => ⟨S16x128x64, .f32⟩
  | .hbm, ⟨58, _⟩ => ⟨S16x128x64, .f32⟩
  | .hbm, ⟨59, _⟩ => ⟨S16x1x128x64, .f32⟩
  | .hbm, ⟨60, _⟩ => ⟨S16x128x128x64, .f32⟩
  | .hbm, ⟨61, _⟩ => ⟨S16x128x1x64, .f32⟩
  | .hbm, ⟨62, _⟩ => ⟨S16x128x128x64, .f32⟩
  | .hbm, ⟨63, _⟩ => ⟨S16x128x128x128, .f32⟩
  | .hbm, ⟨64, _⟩ => ⟨S16x128x128x32, .f32⟩
  | .hbm, ⟨65, _⟩ => ⟨S1x1x1x32, .f32⟩
  | .hbm, ⟨66, _⟩ => ⟨S16x128x128x32, .f32⟩
  | .hbm, ⟨67, _⟩ => ⟨S16x128x128x32, .f32⟩
  | .hbm, ⟨68, _⟩ => ⟨S_, .f32⟩
  | .hbm, ⟨69, _⟩ => ⟨S16x128x128x32, .f32⟩
  | .hbm, ⟨70, _⟩ => ⟨S16x128x128x32, .f32⟩
  | .hbm, ⟨71, _⟩ => ⟨S16x128x128x1, .f32⟩
  | .hbm, ⟨72, _⟩ => ⟨S1x1x1x1, .f32⟩
  | .hbm, ⟨73, _⟩ => ⟨S16x128x128x1, .f32⟩
  | .hbm, ⟨74, _⟩ => ⟨S16x128x128x1, .f32⟩
  | .hbm, ⟨75, _⟩ => ⟨S_, .f32⟩
  | .hbm, ⟨76, _⟩ => ⟨S16x128x128x1, .f32⟩
  | .hbm, ⟨77, _⟩ => ⟨S16x128x128x1, .f32⟩
  | .hbm, ⟨78, _⟩ => ⟨S16x128x128, .f32⟩
  | .hbm, ⟨79, _⟩ => ⟨S16x128x128, .f32⟩
  | .hbm, ⟨80, _⟩ => ⟨S_, .f32⟩
  | .hbm, ⟨81, _⟩ => ⟨S16x128, .f32⟩
  | .hbm, ⟨82, _⟩ => ⟨S_, .f32⟩
  | .hbm, ⟨83, _⟩ => ⟨S16x128, .f32⟩
  | .hbm, ⟨84, _⟩ => ⟨S16x128, .f32⟩
  | .hbm, ⟨85, _⟩ => ⟨S16x128x1, .f32⟩
  | .hbm, ⟨86, _⟩ => ⟨S16x128x128, .f32⟩
  | .hbm, ⟨87, _⟩ => ⟨S16x128x128, .f32⟩
  | .hbm, ⟨88, _⟩ => ⟨S16x128x128, .f32⟩
  | .hbm, ⟨89, _⟩ => ⟨S_, .f32⟩
  | .hbm, ⟨90, _⟩ => ⟨S16x128, .f32⟩
  | .hbm, ⟨91, _⟩ => ⟨S16x128x1, .f32⟩
  | .hbm, ⟨92, _⟩ => ⟨S16x128x128, .f32⟩
  | .hbm, ⟨93, _⟩ => ⟨S16x128x128, .f32⟩
  | .hbm, ⟨94, _⟩ => ⟨S16x128x128, .f32⟩
  | .hbm, ⟨95, _⟩ => ⟨S16x128x64, .f32⟩
  | .hbm, ⟨96, _⟩ => ⟨S16x128x128, .f32⟩
  | .hbm, ⟨97, _⟩ => ⟨S16x128x64, .f32⟩
  | .hbm, ⟨98, _⟩ => ⟨S16x128x128, .f32⟩
  | .hbm, ⟨99, _⟩ => ⟨S_, .f32⟩
  | .hbm, ⟨100, _⟩ => ⟨S16x128x128, .f32⟩
  | .hbm, ⟨101, _⟩ => ⟨S16x128x128, .f32⟩
  | .hbm, ⟨102, _⟩ => ⟨S16x128x128, .f32⟩
  | .hbm, ⟨103, _⟩ => ⟨S1x1x128, .f32⟩
  | .hbm, ⟨104, _⟩ => ⟨S16x128x128, .f32⟩
  | .hbm, ⟨105, _⟩ => ⟨S16x128x128, .f32⟩
  | .hbm, ⟨106, _⟩ => ⟨S_, .f32⟩
  | .hbm, ⟨107, _⟩ => ⟨S16x128x128, .f32⟩
  | .hbm, ⟨108, _⟩ => ⟨S16x128x128, .f32⟩
  | .hbm, ⟨109, _⟩ => ⟨S16x128x64, .f32⟩
  | .hbm, ⟨110, _⟩ => ⟨S1x1x64, .f32⟩
  | .hbm, ⟨111, _⟩ => ⟨S16x128x64, .f32⟩
  | .hbm, ⟨112, _⟩ => ⟨S16x128x64, .f32⟩
  | .hbm, ⟨113, _⟩ => ⟨S_, .f32⟩
  | .hbm, ⟨114, _⟩ => ⟨S16x128x64, .f32⟩
  | .hbm, ⟨115, _⟩ => ⟨S16x128x64, .f32⟩
  | _, _ => ⟨S16x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_call0_cst : Ref sig .tc := ⟨.hbm, 21, rfl⟩
abbrev main_call0_v0 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_values : Ref sig .tc := ⟨.hbm, 34, rfl⟩
abbrev main_indices : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_v14 : Ref sig .tc := ⟨.hbm, 41, rfl⟩
abbrev main_cst_0 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_call2_cst : Ref sig .tc := ⟨.hbm, 48, rfl⟩
abbrev main_call2_v0 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_call3_cst : Ref sig .tc := ⟨.hbm, 55, rfl⟩
abbrev main_call3_v0 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_call4_cst : Ref sig .tc := ⟨.hbm, 68, rfl⟩
abbrev main_call4_v0 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_call5_cst : Ref sig .tc := ⟨.hbm, 75, rfl⟩
abbrev main_call5_v0 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_cst_1 : Ref sig .tc := ⟨.hbm, 80, rfl⟩
abbrev main_v44 : Ref sig .tc := ⟨.hbm, 81, rfl⟩
abbrev main_cst_2 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_cst_3 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_cst_4 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_call6_cst : Ref sig .tc := ⟨.hbm, 106, rfl⟩
abbrev main_call6_v0 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_call7_cst : Ref sig .tc := ⟨.hbm, 113, rfl⟩
abbrev main_call7_v0 : Ref sig .tc := ⟨.hbm, 114, rfl⟩
abbrev main_v71 : Ref sig .tc := ⟨.hbm, 115, rfl⟩

abbrev nD : Nat := 1
abbrev τ : Topo := Topo.v7x

variable {F : FTy → Type} [FloatOps F]
-- ==== Proof.Claims.lean ====
/- The frames of the three programs, and the one rewrite of the idealized kernel. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import Idealize.ShloMosaic.Lib.Quiescent

@[expose] public section

noncomputable section

open Idealize.ShloMosaic Idealize.ShloMosaic.TcCoe Idealize.SL.Sem

namespace Cert.Proof.Claims

/-- The kernel as printed terminates without fault, keeps its arguments and leaves every counter at zero. -/
theorem frame_kernel : Cert.quiescent_Kernel := fun m ρ _ => Cert.Kernel.Gen.frame m ρ

/-- The idealized kernel terminates without fault, keeps its arguments and leaves every counter at zero. -/
theorem frame_ideal : Cert.quiescent_KernelIdeal := fun m ρ _ => Cert.KernelIdeal.Gen.frame m ρ

/-- The reference terminates without fault, keeps its arguments and leaves every counter at zero. -/
theorem frame_reference : Cert.quiescent_ReferenceIdeal := fun m ρ _ =>
  (θ_run Cert.ReferenceIdeal.defs _ _).mono
    (fun r h => ⟨fun c => (h c).2.2, sem_eq_zero_of_no_sems (by decide) r.2⟩)
    (Cert.ReferenceIdeal.Value.run (F := Ideal) m ρ)

/-- The kernel's literal for the reciprocal of the root of 32 is read as that real. -/
theorem preserves : Cert.preserves_Kernel_KernelIdeal :=
  IdealRules.named_const.statement Cert.KernelIdeal.κ "inv_sqrt_qk" .f32 0x3E3504F3#32
    (((Real.sqrt 32)⁻¹ : ℝ) : EReal) rfl

end Cert.Proof.Claims

end
-- ==== Proof.Rank.lean ====
module

public import Idealize.ShloMosaic.Lib.SortFacts
public import Mathlib.Data.Fintype.Card
public import Mathlib.Order.Interval.Finset.Fin

@[expose] public section

/-!
# The greatest entries of a row, said by ranks

A position's rank is the number of positions that come before it when the row is put in descending order, equal
entries in position order. Two readings of "the position is among the `K` first" are proved here: the one of a stable
sort whose first `K` places are kept, and the one of a threshold (the entry at a place of an ascending arrangement)
with the ties at the threshold counted from the left.
-/

namespace Cert.Proof.Rank

open Idealize.ShloMosaic

variable {α : Type*} [LinearOrder α] {n : ℕ}

/-- Position `k` comes before position `j`: its entry is greater, or is the same and `k` is further left. -/
def Before (v : Fin n → α) (k j : Fin n) : Prop := v j < v k ∨ (v k = v j ∧ k < j)

instance (v : Fin n → α) : DecidableRel (Before v) := fun _ _ => by unfold Before; infer_instance

/-- How many positions come before `j`. -/
def rank (v : Fin n → α) (j : Fin n) : ℕ := (Finset.univ.filter fun k => Before v k j).card

/-- No position comes before itself. -/
theorem before_irrefl (v : Fin n → α) (j : Fin n) : ¬ Before v j j := by
  rintro (h | h)
  · exact lt_irrefl _ h
  · exact lt_irrefl _ h.2

/-- Coming before is transitive. -/
theorem before_trans (v : Fin n → α) {i j k : Fin n} (hij : Before v i j) (hjk : Before v j k) : Before v i k := by
  rcases hij with h | ⟨h, h'⟩ <;> rcases hjk with g | ⟨g, g'⟩
  · exact .inl (g.trans h)
  · exact .inl (g ▸ h)
  · exact .inl (h ▸ g)
  · exact .inr ⟨h.trans g, h'.trans g'⟩

/-- Inserting a position that is left of every position listed keeps the list in order. -/
theorem pairwise_insertBefore (v : Fin n → α) (a : Fin n) (l : List (Fin n)) (hl : l.Pairwise (Before v))
    (ha : ∀ b ∈ l, a < b) : (insertBefore (fun k k' => decide (v k' < v k)) a l).Pairwise (Before v) := by
  induction l with
  | nil => exact List.pairwise_singleton _ _
  | cons b l ih =>
    rw [List.pairwise_cons] at hl
    unfold insertBefore
    split
    · rename_i h
      refine List.pairwise_cons.mpr ⟨fun c hc => ?_, ih hl.2 fun c hc => ha c (List.mem_cons_of_mem _ hc)⟩
      rcases List.mem_cons.mp ((perm_insertBefore _ a l).mem_iff.mp hc) with rfl | hc'
      · exact .inl (of_decide_eq_true h)
      · exact hl.1 c hc'
    · rename_i h
      have hab : Before v a b := by
        have h' : v b ≤ v a := not_lt.mp fun hlt => h (decide_eq_true hlt)
        rcases h'.lt_or_eq with hlt | heq
        · exact .inl hlt
        · exact .inr ⟨heq.symm, ha b List.mem_cons_self⟩
      refine List.pairwise_cons.mpr ⟨fun c hc => ?_, List.pairwise_cons.mpr hl⟩
      rcases List.mem_cons.mp hc with rfl | hc'
      · exact hab
      · exact before_trans v hab (hl.1 c hc')

/-- The stable sort of positions listed from left to right, greater entries first, is in order. -/
theorem pairwise_stableSort (v : Fin n → α) (l : List (Fin n)) (hl : l.Pairwise (· < ·)) :
    (stableSort (fun k k' => decide (v k' < v k)) l).Pairwise (Before v) := by
  induction l with
  | nil => exact List.Pairwise.nil
  | cons a l ih =>
    rw [List.pairwise_cons] at hl
    unfold stableSort
    exact pairwise_insertBefore v a _ (ih hl.2) fun b hb => hl.1 b ((perm_stableSort _ l).mem_iff.mp hb)

/-- The sources of the stable sort's places stand in order. -/
theorem before_sortedFrom (v : Fin n → α) {i m : Fin n} (him : i < m) :
    Before v (sortedFrom (fun k k' => decide (v k' < v k)) i) (sortedFrom (fun k k' => decide (v k' < v k)) m) := by
  have hp : (sortPositions n fun k k' => decide (v k' < v k)).Pairwise (Before v) :=
    pairwise_stableSort v (List.finRange n) (List.pairwise_lt_finRange n)
  have hcast : i.cast (length_sortPositions n fun k k' => decide (v k' < v k)).symm
      < m.cast (length_sortPositions n fun k k' => decide (v k' < v k)).symm := him
  exact List.pairwise_iff_get.mp hp _ _ hcast

/-- The position that lands at place `m` of the stable sort has rank `m`. -/
theorem rank_sortedFrom (v : Fin n → α) (m : Fin n) :
    rank v (sortedFrom (fun k k' => decide (v k' < v k)) m) = m.val := by
  set σ := sortedFrom (fun k k' => decide (v k' < v k)) with hσ
  have hiff : ∀ i, Before v (σ i) (σ m) ↔ i < m := by
    intro i
    refine ⟨fun h => ?_, fun h => before_sortedFrom v h⟩
    rcases lt_trichotomy i m with hlt | rfl | hgt
    · exact hlt
    · exact absurd h (before_irrefl v _)
    · exact absurd (before_trans v h (before_sortedFrom v hgt)) (before_irrefl v _)
  have hset : (Finset.univ.filter fun k => Before v k (σ m)) = (Finset.Iio m).image σ := by
    ext k
    obtain ⟨i, rfl⟩ := sortedFrom_surjective (fun k k' => decide (v k' < v k)) k
    simp only [Finset.mem_filter, Finset.mem_univ, true_and, Finset.mem_image, Finset.mem_Iio]
    constructor
    · exact fun h => ⟨i, (hiff i).mp h, rfl⟩
    · rintro ⟨i', hi', he⟩
      rw [← he]
      exact (hiff i').mpr hi'
  unfold rank
  rw [hset, Finset.card_image_of_injective _ (sortedFrom_injective _), Fin.card_Iio]

/-- A position is kept by the stable sort's first `K` places exactly when its rank is below `K`. -/
theorem exists_place_iff (v : Fin n → α) (K : ℕ) (j : Fin n) :
    (∃ m : Fin n, m.val < K ∧ sortedFrom (fun k k' => decide (v k' < v k)) m = j) ↔ rank v j < K := by
  constructor
  · rintro ⟨m, hm, rfl⟩
    rw [rank_sortedFrom]
    exact hm
  · intro h
    obtain ⟨m, rfl⟩ := sortedFrom_surjective (fun k k' => decide (v k' < v k)) j
    rw [rank_sortedFrom] at h
    exact ⟨m, h, rfl⟩

/-- At most `n - 1 - t` entries are greater than the one at place `t` of an ascending arrangement. -/
theorem card_gt_le (v : Fin n → α) (τ : Equiv.Perm (Fin n)) (hτ : Monotone (v ∘ τ)) (t : Fin n) :
    (Finset.univ.filter fun k => v (τ t) < v k).card ≤ n - 1 - t.val := by
  have hsub : (Finset.univ.filter fun k => v (τ t) < v k) ⊆ (Finset.Ioi t).image τ := by
    intro k hk
    rw [Finset.mem_filter] at hk
    rw [Finset.mem_image]
    refine ⟨τ.symm k, ?_, τ.apply_symm_apply k⟩
    rw [Finset.mem_Ioi]
    by_contra hle
    have h := hτ (not_lt.mp hle)
    simp only [Function.comp_apply, Equiv.apply_symm_apply] at h
    exact absurd hk.2 (not_lt.mpr h)
  refine (Finset.card_le_card hsub).trans ?_
  rw [Finset.card_image_of_injective _ τ.injective, Fin.card_Ioi]

/-- At least `n - t` entries are no smaller than the one at place `t` of an ascending arrangement. -/
theorem le_card_ge (v : Fin n → α) (τ : Equiv.Perm (Fin n)) (hτ : Monotone (v ∘ τ)) (t : Fin n) :
    n - t.val ≤ (Finset.univ.filter fun k => v (τ t) ≤ v k).card := by
  have hsub : (Finset.Ici t).image τ ⊆ (Finset.univ.filter fun k => v (τ t) ≤ v k) := by
    intro k hk
    rw [Finset.mem_image] at hk
    obtain ⟨i, hi, rfl⟩ := hk
    rw [Finset.mem_filter]
    exact ⟨Finset.mem_univ _, hτ (Finset.mem_Ici.mp hi)⟩
  refine le_trans ?_ (Finset.card_le_card hsub)
  rw [Finset.card_image_of_injective _ τ.injective, Fin.card_Ici]

/-- The ties counted up to and with `j` are one more than the ties before `j`. -/
theorem card_ties (v : Fin n → α) (j : Fin n) :
    (Finset.univ.filter fun k => v k = v j ∧ k ≤ j).card
      = (Finset.univ.filter fun k => v k = v j ∧ k < j).card + 1 := by
  have hset : (Finset.univ.filter fun k => v k = v j ∧ k ≤ j)
      = insert j (Finset.univ.filter fun k => v k = v j ∧ k < j) := by
    ext k
    simp only [Finset.mem_filter, Finset.mem_univ, true_and, Finset.mem_insert]
    constructor
    · rintro ⟨h, hle⟩
      rcases hle.lt_or_eq with hlt | rfl
      · exact .inr ⟨h, hlt⟩
      · exact .inl rfl
    · rintro (rfl | ⟨h, hlt⟩)
      · exact ⟨rfl, le_rfl⟩
      · exact ⟨h, hlt.le⟩
  rw [hset, Finset.card_insert_of_notMem]
  simp

/-- A rank counts the greater entries and the ties further left. -/
theorem rank_eq (v : Fin n → α) (j : Fin n) :
    rank v j = (Finset.univ.filter fun k => v j < v k).card
      + (Finset.univ.filter fun k => v k = v j ∧ k < j).card := by
  unfold rank Before
  rw [Finset.filter_or, Finset.card_union_of_disjoint]
  rw [Finset.disjoint_filter]
  rintro k - h ⟨h', -⟩
  exact h.ne' h'

/-- THE THRESHOLD'S SELECTION: with the threshold at place `t` of an ascending arrangement, a position's rank is below
    `n - t` exactly when its entry is greater than the threshold, or is the threshold and the greater entries together
    with the ties up to it are at most `n - t`. -/
theorem rank_lt_iff (v : Fin n → α) (τ : Equiv.Perm (Fin n)) (hτ : Monotone (v ∘ τ)) (t j : Fin n) :
    rank v j < n - t.val ↔ v (τ t) < v j ∨ (v j = v (τ t) ∧
      (Finset.univ.filter fun k => v (τ t) < v k).card
        + (Finset.univ.filter fun k => v k = v (τ t) ∧ k ≤ j).card ≤ n - t.val) := by
  rcases lt_trichotomy (v (τ t)) (v j) with hlt | heq | hgt
  · have hsub : (Finset.univ.filter fun k => Before v k j) ⊆ (Finset.univ.filter fun k => v (τ t) < v k) := by
      intro k hk
      rw [Finset.mem_filter] at hk ⊢
      rcases hk.2 with h | ⟨h, -⟩
      · exact ⟨hk.1, hlt.trans h⟩
      · exact ⟨hk.1, h ▸ hlt⟩
    have h1 := (Finset.card_le_card hsub).trans (card_gt_le v τ hτ t)
    have ht := t.isLt
    refine ⟨fun _ => .inl hlt, fun _ => ?_⟩
    unfold rank
    omega
  · rw [heq, card_ties, rank_eq]
    simp only [lt_irrefl, false_or, true_and]
    omega
  · have hsub : (Finset.univ.filter fun k => v (τ t) ≤ v k) ⊆ (Finset.univ.filter fun k => Before v k j) := by
      intro k hk
      rw [Finset.mem_filter] at hk ⊢
      exact ⟨hk.1, .inl (hgt.trans_le hk.2)⟩
    have h1 := (le_card_ge v τ hτ t).trans (Finset.card_le_card hsub)
    constructor
    · intro h
      unfold rank at h
      omega
    · rintro (h | ⟨h, -⟩)
      · exact absurd h (not_lt.mpr hgt.le)
      · exact absurd h hgt.ne

end Cert.Proof.Rank
-- ==== Proof.Consts.lean ====
module

public import proofs.«01_k».proof.KernelIdeal
public import Idealize.ShloMosaic.Lib.IdealHost
public import Idealize.ShloMosaic.Lib.WordCmp

@[expose] public section

/-!
# The constants of the two programs

The values on the extended reals of the printed constants, and the 0/1 values of a printed mask.
-/

noncomputable section

open Idealize.ShloMosaic Idealize.ShloMosaic.TcCoe Idealize.SL.Sem

namespace Cert.Proof.Consts

/-- The pattern of `32.0`. -/
theorem thirtyTwo : Ideal.ofBits .f32 0x42000000#32 = ((32 : ℝ) : EReal) := by
  simp [Ideal.ofBits, Ideal.ieee, -EReal.coe_mul]; norm_num

/-- The pattern of `128.0`. -/
theorem oneTwentyEight : Ideal.ofBits .f32 0x43000000#32 = ((128 : ℝ) : EReal) := by
  simp [Ideal.ofBits, Ideal.ieee, -EReal.coe_mul]; norm_num

/-- The pattern of `1 / 128`. -/
theorem oneOver128 : Ideal.ofBits .f32 0x3C000000#32 = ((1 / 128 : ℝ) : EReal) := by
  simp [Ideal.ofBits, Ideal.ieee, -EReal.coe_mul]; norm_num

/-- The pattern of the least value. -/
theorem negInf : Ideal.ofBits .f32 0xFF800000#32 = ⊥ := by
  simp [Ideal.ofBits, Ideal.ieee]

/-- The named scale of the similarities is `1 / √32`. -/
theorem invSqrt : Named.named (F := Ideal) Cert.KernelIdeal.κ "inv_sqrt_qk" (φ := .f32) 0x3E3504F3#32
    = (((Real.sqrt 32)⁻¹ : ℝ) : EReal) :=
  IdealRules.named_const.ideal_named_scalar _ _ _ _ rfl

/-- A mask bit widened and converted is one or zero. -/
theorem indicator (p : Prop) [Decidable p] :
    FloatOps.sitofp (F := Ideal) .f32 (BitVec.setWidth 32 (BitVec.ofBool (decide p))) = (if p then 1 else 0 : EReal) := by
  by_cases h : p
  · rw [decide_eq_true h, if_pos h]
    show (((BitVec.setWidth 32 (BitVec.ofBool true)).toInt : ℝ) : EReal) = 1
    rw [show (BitVec.setWidth 32 (BitVec.ofBool true)).toInt = 1 from by decide]
    norm_num
  · rw [decide_eq_false h, if_neg h]
    show (((BitVec.setWidth 32 (BitVec.ofBool false)).toInt : ℝ) : EReal) = 0
    rw [show (BitVec.setWidth 32 (BitVec.ofBool false)).toInt = 0 from by decide]
    norm_num

/-- A sum of zeros and ones is the number of ones. -/
theorem sum_indicator {ι : Type} [Fintype ι] (p : ι → Prop) [DecidablePred p] :
    (∑ x, if p x then 1 else 0 : EReal) = (((Finset.univ.filter p).card : ℝ) : EReal) := by
  rw [Finset.sum_boole]
  norm_cast

end Cert.Proof.Consts
-- ==== Proof.SortFold.lean ====
module

public import proofs.«01_k».proof.Proof.Gen.KernelIdeal.Frame

@[expose] public section

/-!
# The kernel's sort, stage by stage

The body sorts each row of the similarities by 28 compare-and-exchange stages, printed one after the other. Here one
stage is written once, and the body's values are seen to be that stage at the distances and block sizes of the
bitonic sort.
-/

noncomputable section

open Idealize.ShloMosaic Idealize.ShloMosaic.TcCoe Idealize.SL.Sem

namespace Cert.Proof.SortFold

open Cert.KernelIdeal Cert.KernelIdeal.Gen

/-- Where a lane keeps the smaller of the two: its distance bit clear exactly when its block bit is clear. -/
def keepsMin (ln : IVec S1x1x128 32) (sz st : BitVec 32) : IVec S1x1x128 1 :=
  xori (xori (cmpi .eq (andi ln (broadcast S1x1x128 st)) (broadcast S1x1x128 0#32))
    (cmpi .eq (andi ln (broadcast S1x1x128 sz)) (broadcast S1x1x128 0#32))) (constantI S1x1x128 1 1#1)

/-- The partner's lane number at every index. -/
def partnerLane (ln : IVec S1x1x128 32) (st : BitVec 32) : IVec S16x128x128 32 :=
  broadcastTo S16x128x128 (shapeCast S1x1x128 (xori ln (broadcast S1x1x128 st)) shapeCasts_S1x1x128_S1x1x128)
    broadcasts_S1x1x128_S16x128x128

/-- The lane the gather reads, as printed: a negative number wrapped round, and a unit axis added and dropped. -/
def gatherLane (ln : IVec S1x1x128 32) (st : BitVec 32) : IVec S16x128x128 32 :=
  shapeCast S16x128x128
    (shapeCast S16x128x128x1
      (select (cmpi .slt (partnerLane ln st) (broadcast S16x128x128 0#32))
        (addi (partnerLane ln st) (broadcast S16x128x128 128#32)) (partnerLane ln st))
      shapeCasts_S16x128x128_S16x128x128x1)
    shapeCasts_S16x128x128x1_S16x128x128

/-- One stage: every lane keeps the smaller or the greater of its entry and its partner's. -/
def kstage (ln : IVec S1x1x128 32) (sz st : BitVec 32) (v : FVec Ideal S16x128x128 .f32) : FVec Ideal S16x128x128 .f32 :=
  select
    (broadcastTo S16x128x128 (shapeCast S1x1x128 (keepsMin ln sz st) shapeCasts_S1x1x128_S1x1x128)
      broadcasts_S1x1x128_S16x128x128)
    (minimumf v (dynamicGather 2 v (gatherLane ln st))) (maximumf v (dynamicGather 2 v (gatherLane ln st)))

/-- The stage of distance `2 ^ s` in the blocks of size `2 ^ (l + 1)`, lanes counted by an iota. -/
def netStage (l s : ℕ) (v : FVec Ideal S16x128x128 .f32) : FVec Ideal S16x128x128 .f32 :=
  kstage (iota .tc S1x1x128 32 [2] iota_S1x1x128_d2_w32) (BitVec.ofNat 32 (2 ^ (l + 1))) (BitVec.ofNat 32 (2 ^ s)) v

/-- All the stages: block sizes ascending, distances descending within a block size. -/
def netSort (v : FVec Ideal S16x128x128 .f32) : FVec Ideal S16x128x128 .f32 :=
  (List.range 7).foldl (fun w l => (List.range (l + 1)).reverse.foldl (fun w s => netStage l s w) w) v

/-- What the body makes of the similarities and the sorted rows: the threshold at lane 96, the strictly greater
    entries, the ties, both counted by products with tables of ones, and the selection. -/
def choose (S srt : FVec Ideal S16x128x128 .f32) : FVec Ideal S16x128x128 .f32 :=
  let thr : FVec Ideal S16x128x128 .f32 := broadcastTo S16x128x128
    (extractStridedSlice S16x128x1 ![0, 0, 96] srt slices_S16x128x128_o0_0_96_S16x128x1) broadcasts_S16x128x1_S16x128x128
  let gt : FVec Ideal S2048x128 .f32 :=
    shapeCast S2048x128 (sitofp .f32 (extui 32 (cmpf .ogt S thr) natLt_1_32)) shapeCasts_S16x128x128_S2048x128
  let eq : FVec Ideal S2048x128 .f32 :=
    shapeCast S2048x128 (sitofp .f32 (extui 32 (cmpf .oeq S thr) natLt_1_32)) shapeCasts_S16x128x128_S2048x128
  let upTo : FVec Ideal S128x128 .f32 := sitofp .f32 (extui 32 (cmpi .sle (iota .tc S128x128 32 [0] iota_S128x128_d0_w32)
    (iota .tc S128x128 32 [1] iota_S128x128_d1_w32)) natLt_1_32)
  let count : FVec Ideal S2048x128 .f32 :=
    addf (matmul dot_S2048x128_S128x128_S2048x128_1_0_0_1_n_n none gt
        (broadcast S128x128 (Scalar.ofBits .f32 0x3F800000#32)) (constant S2048x128 .f32 0x00000000#32))
      (matmul dot_S2048x128_S128x128_S2048x128_1_0_0_1_n_n none eq upTo (constant S2048x128 .f32 0x00000000#32))
  shapeCast S16x128x128
    (select
      (ori (cmpf .ogt gt (broadcast S2048x128 (Scalar.ofBits .f32 0x00000000#32)))
        (andi (cmpf .ogt eq (broadcast S2048x128 (Scalar.ofBits .f32 0x00000000#32)))
          (cmpf .ole count (broadcast S2048x128 (Scalar.ofBits .f32 0x42000000#32)))))
      (broadcast S2048x128 (Scalar.ofBits .f32 0x3F800000#32)) (broadcast S2048x128 (Scalar.ofBits .f32 0x00000000#32)))
    shapeCasts_S2048x128_S16x128x128

section groups

variable (S v : FVec Ideal S16x128x128 .f32) (ln : IVec S1x1x128 32)

/-- The stages of the blocks of 4 are two stages. -/
theorem fold_blocks4 :
    k0_pay17 ln v (k0_pay15 ln) (k0_pay16 ln) = kstage ln 4#32 1#32 (kstage ln 4#32 2#32 v) := rfl

/-- The first stages of the blocks of 8. -/
theorem fold_blocks8 :
    k0_pay20 ln v (k0_pay18 ln) (k0_pay19 ln) = kstage ln 8#32 2#32 (kstage ln 8#32 4#32 v) := rfl

/-- The last stage of the blocks of 8 and the first of the blocks of 16. -/
theorem fold_blocks16 :
    k0_pay28 ln (k0_pay25 ln v (k0_pay21 ln) (k0_pay22 ln)) (k0_pay26 ln v (k0_pay21 ln) (k0_pay22 ln)) (k0_pay27 ln)
      = kstage ln 16#32 4#32 (kstage ln 16#32 8#32 (kstage ln 8#32 1#32 v)) := rfl

/-- The last stages of the blocks of 16. -/
theorem fold_blocks16_last :
    k0_pay32 ln v (k0_pay29 ln) (k0_pay30 ln) (k0_pay31 ln) 128#32
      = kstage ln 16#32 1#32 (kstage ln 16#32 2#32 v) := rfl

/-- The first stages of the blocks of 32. -/
theorem fold_blocks32 :
    k0_pay36 ln (k0_pay34 ln v (k0_pay33 ln) (constantI S1x1x128 1 1#1)) (k0_pay35 ln) 0#32
      = kstage ln 32#32 4#32 (kstage ln 32#32 8#32 (kstage ln 32#32 16#32 v)) := rfl

/-- The last stages of the blocks of 32 and the first of the blocks of 64. -/
theorem fold_blocks64 :
    k0_pay42 ln (k0_pay39 ln v (k0_pay37 ln) (k0_pay38 ln)) (k0_pay40 ln) (k0_pay41 ln)
      = kstage ln 64#32 16#32 (kstage ln 64#32 32#32 (kstage ln 32#32 1#32 (kstage ln 32#32 2#32 v))) := rfl

/-- The middle stages of the blocks of 64. -/
theorem fold_blocks64_mid :
    k0_pay50 ln (k0_pay47 ln v (k0_pay43 ln) (k0_pay44 ln)) (k0_pay48 ln v (k0_pay43 ln) (k0_pay44 ln)) (k0_pay49 ln)
      = kstage ln 64#32 2#32 (kstage ln 64#32 4#32 (kstage ln 64#32 8#32 v)) := rfl

/-- The last stage of the blocks of 64 and the first of the whole row. -/
theorem fold_blocks128 :
    k0_pay54 ln v (k0_pay51 ln) (k0_pay52 ln) (k0_pay53 ln) 128#32
      = kstage ln 128#32 64#32 (kstage ln 64#32 1#32 v) := rfl

/-- The middle stages of the whole row. -/
theorem fold_blocks128_mid :
    k0_pay58 ln (k0_pay56 ln v (k0_pay55 ln) (constantI S1x1x128 1 1#1)) (k0_pay57 ln) 0#32
      = kstage ln 128#32 8#32 (kstage ln 128#32 16#32 (kstage ln 128#32 32#32 v)) := rfl

/-- Two more stages of the whole row. -/
theorem fold_blocks128_late :
    k0_pay61 ln v (k0_pay59 ln) (k0_pay60 ln) = kstage ln 128#32 2#32 (kstage ln 128#32 4#32 v) := rfl

/-- The last stage of the whole row and the choice. -/
theorem fold_choose :
    k0_pay64 S v (k0_pay62 ln) (k0_pay63 ln) = choose S (kstage ln 128#32 1#32 v) := rfl

end groups

/-- The first stage of all, on the lanes' iota. -/
theorem fold_blocks2 (v : FVec Ideal S16x128x128 .f32) :
    k0_pay14 v (iota .tc S1x1x128 32 [2] iota_S1x1x128_d2_w32) k0_pay13 0#32
      = kstage (iota .tc S1x1x128 32 [2] iota_S1x1x128_d2_w32) 2#32 1#32 v := rfl

/-- The stages one after the other are the sort's two nested passes. -/
theorem netSort_eq (v : FVec Ideal S16x128x128 .f32) (ln : IVec S1x1x128 32)
    (hln : ln = iota .tc S1x1x128 32 [2] iota_S1x1x128_d2_w32) :
    netSort v =
      kstage ln 128#32 1#32 (kstage ln 128#32 2#32 (kstage ln 128#32 4#32 (kstage ln 128#32 8#32 (kstage ln 128#32 16#32
      (kstage ln 128#32 32#32 (kstage ln 128#32 64#32 (kstage ln 64#32 1#32 (kstage ln 64#32 2#32 (kstage ln 64#32 4#32
      (kstage ln 64#32 8#32 (kstage ln 64#32 16#32 (kstage ln 64#32 32#32 (kstage ln 32#32 1#32 (kstage ln 32#32 2#32
      (kstage ln 32#32 4#32 (kstage ln 32#32 8#32 (kstage ln 32#32 16#32 (kstage ln 16#32 1#32 (kstage ln 16#32 2#32
      (kstage ln 16#32 4#32 (kstage ln 16#32 8#32 (kstage ln 8#32 1#32 (kstage ln 8#32 2#32 (kstage ln 8#32 4#32
      (kstage ln 4#32 1#32 (kstage ln 4#32 2#32 (kstage ln 2#32 1#32 v))))))))))))))))))))))))))) := by
  subst hln
  rfl

section whole

variable (x0 : Vec Ideal S16x128x128 .f32) (x1 : Vec Ideal S128x64 .f32) (x2 : Vec Ideal S1x64 .f32)
  (x3 : Vec Ideal S128x32 .f32) (x4 : Vec Ideal S1x32 .f32) (x5 : Vec Ideal S64x128 .f32) (x6 : Vec Ideal S1x128 .f32)
  (x7 : Vec Ideal S128x64 .f32) (x8 : Vec Ideal S1x64 .f32) (x9 : Vec Ideal S128x32 .f32) (x10 : Vec Ideal S1x32 .f32)
  (x11 : Vec Ideal S32x1 .f32) (x12 : Vec Ideal S1x1 .f32) (x13 : Vec Ideal S128x128 .f32) (x14 : Vec Ideal S1x128 .f32)
  (x15 : Vec Ideal S128x64 .f32) (x16 : Vec Ideal S1x64 .f32)

/-- The selection the body stores is the choice from the similarities and their rows sorted. -/
theorem selection_eq :
    k0_pay165 x0 x1 x2 x3 x4 x5 x6 x7 x8 x9 x10 x11 x12 x13 x14 x15 x16
      = choose (k0_pay157 x0 x1 x2 x3 x4 x5 x6 x7 x8 x9 x10 x11 x12 x13 x14 x15 x16)
          (netSort (k0_pay157 x0 x1 x2 x3 x4 x5 x6 x7 x8 x9 x10 x11 x12 x13 x14 x15 x16)) := by
  rw [netSort_eq _ _ rfl]
  unfold k0_pay165 k0_pay161 k0_pay162 k0_pay163 k0_pay158 k0_pay159 k0_pay160 k0_pay156
  rw [fold_choose, fold_blocks128_late, fold_blocks128_mid, fold_blocks128, fold_blocks64_mid, fold_blocks64,
    fold_blocks32, fold_blocks16_last, fold_blocks16, fold_blocks8, fold_blocks4, fold_blocks2]

end whole

end Cert.Proof.SortFold
-- ==== Proof.SortRows.lean ====
module

public import proofs.«01_k».proof.Proof.SortFold
public import Idealize.ShloMosaic.Lib.Pointwise
public import Idealize.ShloMosaic.Lib.SortNet.Sorts
public import Idealize.ShloMosaic.Lib.SortNet.Printed
public import Idealize.ShloMosaic.Lib.SortNet.PrintedCmp

@[expose] public section

/-!
# Each row after the kernel's sort

A stage of the kernel, read along a row, is a stage of the bitonic network; so the rows come out ascending, and each is
a rearrangement of the row that went in.
-/

noncomputable section

open Idealize.ShloMosaic Idealize.ShloMosaic.TcCoe Idealize.SL.Sem

namespace Cert.Proof.SortRows

open Cert.KernelIdeal Cert.KernelIdeal.Gen Cert.Proof.SortFold
open Idealize.ShloMosaic.SortNet

/-- Row `n` of table `b`. -/
def row (v : FVec Ideal S16x128x128 .f32) (b : Fin 16) (n : Fin 128) : Fin (2 ^ 7) → EReal := fun i => v (ix3 b n i)

/-- The lanes of the one-row vectors. -/
def laneCol : Column S1x1x128 2 7 where
  col i := ix3 0 0 i
  size_eq := rfl
  coord _ := rfl
  other i i' a ha := by
    fin_cases a
    · rfl
    · rfl
    · exact absurd rfl ha

/-- The lanes of row `n` of table `b`. -/
def rowCol (b : Fin 16) (n : Fin 128) : Column S16x128x128 2 7 where
  col i := ix3 b n i
  size_eq := rfl
  coord _ := rfl
  other i i' a ha := by
    fin_cases a
    · rfl
    · rfl
    · exact absurd rfl ha

/-- A power of two below the word's range, as a word. -/
theorem toNat_two_pow (k : ℕ) (hk : k < 32) : (BitVec.ofNat 32 (2 ^ k)).toNat = 2 ^ k := by
  rw [BitVec.toNat_ofNat, Nat.mod_eq_of_lt (Nat.pow_lt_pow_right (by decide) hk)]

variable (ln : IVec S1x1x128 32) (hln : ∀ i, ln (laneCol.col i) = BitVec.ofNat 32 i.val)
include hln

/-- "Bit `k` of the lane's number is clear", as printed. -/
theorem clear_apply (k : ℕ) (hk : k < 32) (i : Fin (2 ^ 7)) :
    cmpi .eq (andi ln (broadcast S1x1x128 (BitVec.ofNat 32 (2 ^ k)))) (broadcast S1x1x128 0#32) (laneCol.col i)
      = BitVec.ofBool (decide (i.val &&& 2 ^ k = 0)) := by
  have hi : i.val < 2 ^ 32 := Nat.lt_of_lt_of_le i.isLt (Nat.pow_le_pow_right (by decide) (by decide))
  show BitVec.ofBool (IntOp.andi (ln (laneCol.col i)) (BitVec.ofNat 32 (2 ^ k)) == 0#32) = _
  rw [hln]
  congr 1
  rw [Bool.eq_iff_iff, beq_iff_eq, decide_eq_true_eq, and_distance_eq_zero_iff hi _ (toNat_two_pow k hk)]

/-- The lanes that keep the smaller: the distance bit and the block bit agree. -/
theorem keepsMin_apply (l s : ℕ) (hl : l < 7) (hs : s ≤ l) (i : Fin (2 ^ 7)) :
    keepsMin ln (BitVec.ofNat 32 (2 ^ (l + 1))) (BitVec.ofNat 32 (2 ^ s)) (laneCol.col i)
      = BitVec.ofBool (!upperXor s (fun i : Fin (2 ^ 7) => decide (i.val &&& 2 ^ (l + 1) = 0) == false) i) := by
  unfold keepsMin
  rw [xori_one_apply _ _ _ (xori_apply_ofBool _ _ _ _ _ (clear_apply ln hln s (by omega) i)
    (clear_apply ln hln (l + 1) (by omega) i))]
  unfold upperXor
  by_cases h : i.val &&& 2 ^ s = 0 <;> by_cases h' : i.val &&& 2 ^ (l + 1) = 0 <;> simp [h, h']

/-- The partner's number, at every index of a row. -/
theorem partnerLane_apply (s : ℕ) (hs : s < 7) (b : Fin 16) (n : Fin 128) (i : Fin (2 ^ 7)) :
    partnerLane ln (BitVec.ofNat 32 (2 ^ s)) (ix3 b n i) = BitVec.ofNat 32 (partner 7 s i).val := by
  have h : partnerLane ln (BitVec.ofNat 32 (2 ^ s)) (ix3 b n i)
      = xori ln (broadcast S1x1x128 (BitVec.ofNat 32 (2 ^ s))) (laneCol.col i) := by
    unfold partnerLane
    rw [shapeCast_id]
    pointwise
    first | rfl | skip
  rw [h]
  exact xorPartner_apply laneCol hs ln hln _ (toNat_two_pow s (by omega)) i

/-- The gather of a stage reads the partner. -/
theorem gather_apply (s : ℕ) (hs : s < 7) (v : FVec Ideal S16x128x128 .f32) (b : Fin 16) (n : Fin 128) (i : Fin (2 ^ 7)) :
    dynamicGather 2 v (gatherLane ln (BitVec.ofNat 32 (2 ^ s))) (ix3 b n i) = row v b n (partner 7 s i) := by
  have hlt : (partner 7 s i).val < 2 ^ 31 :=
    Nat.lt_of_lt_of_le (partner 7 s i).isLt (Nat.pow_le_pow_right (by decide) (by decide))
  refine gather_col_apply (rowCol b n) (by decide) v _ i (partner 7 s i) ?_
  unfold gatherLane
  rw [shapeCast_comp, shapeCast_id]
  exact wrapIndex_apply _ _ _ _ _ hlt (partnerLane_apply ln hln s hs b n i) rfl

/-- A printed stage on a row is a stage of the network. -/
theorem kstage_apply (l s : ℕ) (hl : l < 7) (hs : s ≤ l) (v : FVec Ideal S16x128x128 .f32) (b : Fin 16) (n : Fin 128)
    (i : Fin (2 ^ 7)) :
    kstage ln (BitVec.ofNat 32 (2 ^ (l + 1))) (BitVec.ofNat 32 (2 ^ s)) v (ix3 b n i)
      = Network.apply (stage 7 s fun i => decide (i.val &&& 2 ^ (l + 1) = 0) == false) (row v b n) i := by
  have hs7 : s < 7 := by omega
  rw [← stage_upperXor, apply_stage_select hs7 _
    (fun j => upperXor_partner hs7 _ j (sizeClear_partner hs7 hs false j)), ite_lt_eq_max_min]
  unfold kstage
  rw [select_apply]
  have hm : broadcastTo S16x128x128 (shapeCast S1x1x128 (keepsMin ln (BitVec.ofNat 32 (2 ^ (l + 1))) (BitVec.ofNat 32 (2 ^ s)))
      shapeCasts_S1x1x128_S1x1x128) broadcasts_S1x1x128_S16x128x128 (ix3 b n i)
      = keepsMin ln (BitVec.ofNat 32 (2 ^ (l + 1))) (BitVec.ofNat 32 (2 ^ s)) (laneCol.col i) := by
    rw [shapeCast_id]
    pointwise
    first | rfl | skip
  have hmin : minimumf v (dynamicGather 2 v (gatherLane ln (BitVec.ofNat 32 (2 ^ s)))) (ix3 b n i)
      = min (row v b n i) (row v b n (partner 7 s i)) := by
    rw [← gather_apply ln hln s hs7 v b n i]
    rfl
  have hmax : maximumf v (dynamicGather 2 v (gatherLane ln (BitVec.ofNat 32 (2 ^ s)))) (ix3 b n i)
      = max (row v b n i) (row v b n (partner 7 s i)) := by
    rw [← gather_apply ln hln s hs7 v b n i]
    rfl
  rw [hm, keepsMin_apply ln hln l s hl hs i, select_ofBool, hmin, hmax]
  generalize upperXor s (fun i : Fin (2 ^ 7) => decide (i.val &&& 2 ^ (l + 1) = 0) == false) i = k
  cases k <;> rfl

omit hln in
/-- A stage of the kernel on a row. -/
theorem row_netStage (l s : ℕ) (hl : l < 7) (hs : s ≤ l) (v : FVec Ideal S16x128x128 .f32) (b : Fin 16) (n : Fin 128) :
    row (netStage l s v) b n
      = Network.apply (stage 7 s fun i => decide (i.val &&& 2 ^ (l + 1) = 0) == false) (row v b n) :=
  funext fun i => kstage_apply _ (fun i => laneCol.iota_apply .tc _ i) l s hl hs v b n i

omit hln in
/-- Passes over a list, one after the other, read through a fold. -/
theorem apply_flatMap {ι α : Type} [LinearOrder α] {m : ℕ} (L : List ι) (f : ι → Network m) (w : Fin m → α) :
    Network.apply (L.flatMap f) w = L.foldl (fun w x => Network.apply (f x) w) w := by
  induction L generalizing w with
  | nil => rfl
  | cons a L ih => rw [List.flatMap_cons, Network.apply_append, ih, List.foldl_cons]

omit hln in
/-- A fold of the kernel's stages on a row is the fold of the network's, where each step is. -/
theorem row_foldl {ι : Type} (L : List ι) (f : ι → FVec Ideal S16x128x128 .f32 → FVec Ideal S16x128x128 .f32)
    (g : ι → (Fin (2 ^ 7) → EReal) → Fin (2 ^ 7) → EReal) (b : Fin 16) (n : Fin 128)
    (h : ∀ x ∈ L, ∀ v, row (f x v) b n = g x (row v b n)) (v : FVec Ideal S16x128x128 .f32) :
    row (L.foldl (fun w x => f x w) v) b n = L.foldl (fun w x => g x w) (row v b n) := by
  induction L generalizing v with
  | nil => rfl
  | cons a L ih =>
    rw [List.foldl_cons, List.foldl_cons, ih (fun x hx => h x (List.mem_cons_of_mem _ hx)), h a List.mem_cons_self]

omit hln in
/-- A row after the kernel's sort is the network's output. -/
theorem row_netSort (v : FVec Ideal S16x128x128 .f32) (b : Fin 16) (n : Fin 128) :
    row (netSort v) b n = Network.apply (sortNet 7 false) (row v b n) := by
  unfold netSort sortNet
  rw [apply_flatMap]
  refine row_foldl _ _ _ b n (fun l hl v => ?_) v
  rw [apply_flatMap]
  refine row_foldl _ _ _ b n (fun s hs v => ?_) v
  rw [List.mem_reverse] at hs
  exact row_netStage l s (List.mem_range.mp hl) (Nat.lt_succ_iff.mp (List.mem_range.mp hs)) v b n

omit hln in
/-- A row after the kernel's sort ascends and is a rearrangement of the row before it. -/
theorem exists_sorted (v : FVec Ideal S16x128x128 .f32) (b : Fin 16) (n : Fin 128) :
    ∃ τ : Equiv.Perm (Fin (2 ^ 7)), row (netSort v) b n = row v b n ∘ τ ∧ Monotone (row v b n ∘ τ) := by
  obtain ⟨τ, hτ⟩ := Network.exists_perm (sortNet 7 false) (row v b n)
  exact ⟨τ, (row_netSort v b n).trans hτ, hτ ▸ sortNet_apply_monotone 7 (row v b n)⟩

end Cert.Proof.SortRows
-- ==== Proof.Select.lean ====
module

public import proofs.«01_k».proof.Proof.Rank
public import proofs.«01_k».proof.Proof.Consts
public import proofs.«01_k».proof.Proof.SortRows

@[expose] public section

set_option maxRecDepth 16384

/-!
# The kernel's selection

The table of ones the body makes from the similarities and their sorted rows: a one exactly at the 32 greatest of a row,
ties taken from the left.
-/

noncomputable section

open Idealize.ShloMosaic Idealize.ShloMosaic.TcCoe Idealize.SL.Sem

namespace Cert.Proof.Select

open Cert.KernelIdeal Cert.KernelIdeal.Gen Cert.Proof.SortFold Cert.Proof.SortRows Cert.Proof.Consts Cert.Proof.Rank

/-- A choice between one and zero under two tests joined as the body joins them. -/
theorem choice (p q r : Prop) [Decidable p] [Decidable q] [Decidable r] :
    Scalar.select (IntOp.ori (BitVec.ofBool (decide p)) (IntOp.andi (BitVec.ofBool (decide q)) (BitVec.ofBool (decide r))))
      (1 : EReal) 0 = if p ∨ (q ∧ r) then 1 else 0 := by
  by_cases hp : p <;> by_cases hq : q <;> by_cases hr : r <;> simp only [hp, hq, hr] <;> first | rfl | simp <;> rfl

/-- An indicator is positive exactly where its condition holds. -/
theorem indicator_pos (p : Prop) [Decidable p] : (0 : EReal) < (if p then 1 else 0) ↔ p := by
  by_cases h : p <;> simp [h]

/-- A product of indicators is the indicator of both. -/
theorem indicator_mul (p q : Prop) [Decidable p] [Decidable q] :
    ((if p then 1 else 0 : EReal) * if q then 1 else 0) = if p ∧ q then 1 else 0 := by
  by_cases h : p <;> by_cases h' : q <;> simp [h, h']

/-- Lane numbers compare as the lanes. -/
theorem lane_le (x j : Fin 128) : IntOp.cmpi .sle (BitVec.ofNat 32 x.val) (BitVec.ofNat 32 j.val) = BitVec.ofBool (decide (x ≤ j)) :=
  (WordCmp.cmpi_sle_ofNat (by omega) (by omega)).trans rfl

/-- The chosen table, before the threshold is known to be an entry of the row: greater than the threshold, or equal to
    it with at most 32 greater entries and ties up to the lane. -/
theorem choose_apply (S srt : FVec Ideal S16x128x128 .f32) (b : Fin 16) (n j : Fin 128) :
    choose S srt (ix3 b n j) =
      if row srt b n 96 < row S b n j ∨ (row S b n j = row srt b n 96 ∧
        (Finset.univ.filter fun k => row srt b n 96 < row S b n k).card
          + (Finset.univ.filter fun k : Fin 128 => row S b n k = row srt b n 96 ∧ k ≤ j).card ≤ 32) then 1 else 0 := by
  pointwise [choose]
  simp only [indicator, lane_le, indicator_mul, sum_indicator, indicator_pos, thirtyTwo, choice]
  have hcast : ∀ a b : ℕ, (((a : ℝ) : EReal) + ((b : ℝ) : EReal) ≤ ((32 : ℝ) : EReal)) ↔ a + b ≤ 32 := fun a b => by
    rw [← EReal.coe_add, EReal.coe_le_coe_iff]
    norm_cast
  exact if_congr (or_congr Iff.rfl (and_congr Iff.rfl (hcast _ _))) rfl rfl

/-- THE KERNEL'S SELECTION: one where the similarity is among the 32 greatest of its row, ties from the left. -/
theorem choose_netSort (S : FVec Ideal S16x128x128 .f32) (b : Fin 16) (n j : Fin 128) :
    choose S (netSort S) (ix3 b n j) = if rank (row S b n) j < 32 then 1 else 0 := by
  rw [choose_apply]
  obtain ⟨τ, hrow, hmono⟩ := exists_sorted S b n
  have h := rank_lt_iff (row S b n) τ hmono 96 j
  have ht : row (netSort S) b n 96 = row S b n (τ 96) := congrFun hrow 96
  rw [ht]
  exact if_congr h.symm rfl rfl

end Cert.Proof.Select
-- ==== Proof.Tiles.lean ====
module

public import proofs.«01_k».proof.Proof.Gen.KernelIdeal.Frame
public import Idealize.ShloMosaic.Lib.Pointwise

@[expose] public section

set_option maxRecDepth 16384

/-!
# The body's tiles

The body keeps some arrays as 2048 rows (batch `b`'s row `n` at place `b*128 + n`) and works batch by batch: it takes one
batch out, multiplies, and puts the 16 results together. Here the takings and puttings, read at an index.
-/

noncomputable section

open Idealize.ShloMosaic Idealize.ShloMosaic.TcCoe Idealize.SL.Sem

namespace Cert.Proof.Tiles

open Cert.KernelIdeal Cert.KernelIdeal.Gen

/-- The place of row `n` of batch `b` among the 2048 rows. -/
def place (b : Fin 16) (n : Fin 128) : Fin 2048 := ⟨b.val * 128 + n.val, by omega⟩

theorem place_div (b : Fin 16) (n : Fin 128) (h : (place b n).val / 128 < 16) : (⟨(place b n).val / 128, h⟩ : Fin 16) = b :=
  Fin.ext (by show (b.val * 128 + n.val) / 128 = b.val; omega)

theorem place_mod (b : Fin 16) (n : Fin 128) (h : (place b n).val % 128 < 128) : (⟨(place b n).val % 128, h⟩ : Fin 128) = n :=
  Fin.ext (by show (b.val * 128 + n.val) % 128 = n.val; omega)

theorem fits32 (b : Fin 16) : S2048x32.Slices ![b.val * 128, 0] S128x32 :=
  ⟨rfl, fun a => by fin_cases a <;> simp <;> omega⟩

theorem fits64 (b : Fin 16) : S2048x64.Slices ![b.val * 128, 0] S128x64 :=
  ⟨rfl, fun a => by fin_cases a <;> simp <;> omega⟩

theorem fitsSlab (b : Fin 16) : S16x128x128.Slices ![b.val, 0, 0] S1x128x128 :=
  ⟨rfl, fun a => by fin_cases a <;> simp <;> omega⟩

/-- Batch `b`'s 128 rows of 32. -/
def rows32 (x : FVec Ideal S2048x32 .f32) (b : Fin 16) : FVec Ideal S128x32 .f32 :=
  extractStridedSlice S128x32 ![b.val * 128, 0] x (fits32 b)

/-- Batch `b`'s 128 rows of 64. -/
def rows64 (x : FVec Ideal S2048x64 .f32) (b : Fin 16) : FVec Ideal S128x64 .f32 :=
  extractStridedSlice S128x64 ![b.val * 128, 0] x (fits64 b)

/-- Batch `b`'s table. -/
def slab (x : FVec Ideal S16x128x128 .f32) (b : Fin 16) : FVec Ideal S128x128 .f32 :=
  shapeCast S128x128 (extractStridedSlice S1x128x128 ![b.val, 0, 0] x (fitsSlab b)) shapeCasts_S1x128x128_S128x128

/-- Sixteen tables in one array. -/
def stack128 (f : Fin 16 → FVec Ideal S128x128 .f32) : FVec Ideal S16x128x128 .f32 :=
  concatenate S16x128x128 0 (List.ofFn fun b => ⟨S1x128x128, shapeCast S1x128x128 (f b) shapeCasts_S128x128_S1x128x128⟩) (show Shape.Concatenates (List.replicate 16 S1x128x128) S16x128x128 0 by decide)

/-- Sixteen tables of 32 rows in one array. -/
def stack32 (f : Fin 16 → FVec Ideal S32x128 .f32) : FVec Ideal S16x32x128 .f32 :=
  concatenate S16x32x128 0 (List.ofFn fun b => ⟨S1x32x128, shapeCast S1x32x128 (f b) shapeCasts_S32x128_S1x32x128⟩) (show Shape.Concatenates (List.replicate 16 S1x32x128) S16x32x128 0 by decide)

/-- Sixteen blocks of 128 rows one under the other. -/
def pile (f : Fin 16 → FVec Ideal S128x64 .f32) : FVec Ideal S2048x64 .f32 :=
  concatenate S2048x64 0 (List.ofFn fun b => ⟨S128x64, f b⟩) (show Shape.Concatenates (List.replicate 16 S128x64) S2048x64 0 by decide)

theorem rows32_apply (x : FVec Ideal S2048x32 .f32) (b : Fin 16) (n : Fin 128) (d : Fin 32) :
    rows32 x b (ix2 n d) = x (ix2 (place b n) d) := by
  pointwise [rows32, place]

theorem rows64_apply (x : FVec Ideal S2048x64 .f32) (b : Fin 16) (n : Fin 128) (f : Fin 64) :
    rows64 x b (ix2 n f) = x (ix2 (place b n) f) := by
  pointwise [rows64, place]

theorem slab_apply (x : FVec Ideal S16x128x128 .f32) (b : Fin 16) (n j : Fin 128) :
    slab x b (ix2 n j) = x (ix3 b n j) := by
  pointwise [slab]

theorem stack128_apply (f : Fin 16 → FVec Ideal S128x128 .f32) (b : Fin 16) (n j : Fin 128) :
    stack128 f (ix3 b n j) = f b (ix2 n j) := by
  pointwise [stack128]

theorem stack32_apply (f : Fin 16 → FVec Ideal S32x128 .f32) (b : Fin 16) (c : Fin 32) (j : Fin 128) :
    stack32 f (ix3 b c j) = f b (ix2 c j) := by
  pointwise [stack32]

theorem pile_apply (f : Fin 16 → FVec Ideal S128x64 .f32) (b : Fin 16) (n : Fin 128) (d : Fin 64) :
    pile f (ix2 (place b n) d) = f b (ix2 n d) := by
  unfold pile
  exact concatenate_ofFn_apply (t := S2048x64) (s₁ := S128x64) (0 : Fin 2) f _ rfl 128 rfl (ix2 (place b n) d) b (by show (b.val * 128 + n.val) / 128 = b.val; omega) (ix2 n d)
    (by show n.val = (b.val * 128 + n.val) % 128; omega) (fun a ha => match a with
      | ⟨0, _⟩ => absurd rfl ha
      | ⟨1, _⟩ => rfl)

end Cert.Proof.Tiles
-- ==== Proof.Spec.lean ====
module

public import proofs.«01_k».proof.Proof.Rank
public import Idealize.ShloMosaic.Lib.Pointwise

@[expose] public section

/-!
# The mathematics

What both programs compute, as functions of the entries: tables are functions of their coordinates, with values in the extended
reals. Nothing here speaks of tiles or of memory.
-/

noncomputable section

open Idealize.ShloMosaic Idealize.SL.Sem

namespace Cert.Proof.Spec

/-- An array of three axes as a table per batch. -/
def cube {m n : ℕ} (x : FVec Ideal (⟨3, ![16, m, n]⟩ : Shape) .f32) : Fin 16 → Fin m → Fin n → EReal := fun b i j => x (ix3 b i j)

/-- A matrix as a table. -/
def mat {m n : ℕ} (x : FVec Ideal (⟨2, ![m, n]⟩ : Shape) .f32) : Fin m → Fin n → EReal := fun i j => x (ix2 i j)

/-- The single row of a `1 × n` matrix. -/
def only {n : ℕ} (x : FVec Ideal (⟨2, ![1, n]⟩ : Shape) .f32) : Fin n → EReal := fun j => x (ix2 0 j)

/-- A list of entries as a function. -/
def vec {n : ℕ} (x : FVec Ideal (⟨1, ![n]⟩ : Shape) .f32) : Fin n → EReal := fun j => x (ix1 j)

/-- A dense layer on each row: weighted sum and bias. -/
def dense {m k n : ℕ} (x : Fin 16 → Fin m → Fin k → EReal) (W : Fin k → Fin n → EReal) (c : Fin n → EReal) :
    Fin 16 → Fin m → Fin n → EReal :=
  fun b i f => (∑ t, x b i t * W t f) + c f

/-- The positive part of each entry. -/
def relu {m n : ℕ} (x : Fin 16 → Fin m → Fin n → EReal) : Fin 16 → Fin m → Fin n → EReal := fun b i f => max (x b i f) 0

/-- The similarities: scalar products of the rows over the root of 32. -/
def similar (q : Fin 16 → Fin 128 → Fin 32 → EReal) : Fin 16 → Fin 128 → Fin 128 → EReal :=
  fun b n k => (∑ d, q b n d * q b k d) * (((Real.sqrt 32)⁻¹ : ℝ) : EReal)

/-- The selection: a one at the 32 greatest of each row, ties from the left. -/
def hot (s : Fin 16 → Fin 128 → Fin 128 → EReal) : Fin 16 → Fin 128 → Fin 128 → EReal :=
  fun b n j => if Rank.rank (s b n) j < 32 then 1 else 0

/-- A product of tables within each batch. -/
def product {m k n : ℕ} (x : Fin 16 → Fin m → Fin k → EReal) (y : Fin 16 → Fin k → Fin n → EReal) : Fin 16 → Fin m → Fin n → EReal :=
  fun b i f => ∑ t, x b i t * y b t f

/-- Each batch's table transposed. -/
def flip {m n : ℕ} (x : Fin 16 → Fin m → Fin n → EReal) : Fin 16 → Fin n → Fin m → EReal := fun b i j => x b j i

/-- The row weights: each row's softmax of the scores on the selection, taken on the selection. -/
def weights (h a : Fin 16 → Fin 128 → Fin 128 → EReal) : Fin 16 → Fin 128 → Fin 128 → EReal := fun b i j =>
  Ideal.div (Ideal.exp (a b i j * h b i j - Finset.univ.fold max ⊥ fun k => a b i k * h b i k))
    (∑ l, Ideal.exp (a b i l * h b i l - Finset.univ.fold max ⊥ fun k => a b i k * h b i k)) * h b i j

/-- The attention score of node `j` for hyperedge `i`: two layers on the node's row `x` and the hyperedge's row `e` joined. -/
def score (x e : Fin 16 → Fin 128 → Fin 64 → EReal) (W : Fin 128 → Fin 32 → EReal) (c1 : Fin 32 → EReal) (w : Fin 32 → Fin 1 → EReal)
    (c2 : Fin 1 → EReal) : Fin 16 → Fin 128 → Fin 128 → EReal := fun b i j =>
  max ((∑ c, max ((∑ f : Fin 64, x b j f * W (Fin.castAdd 64 f) c) + (∑ f : Fin 64, e b i f * W (Fin.natAdd 64 f) c) + c1 c) 0 * w c 0) + c2 0) 0

/-- The layer on the messages `m` and the rows `a` joined, over 128. -/
def mixed (m a : Fin 16 → Fin 128 → Fin 64 → EReal) (W : Fin 128 → Fin 128 → EReal) (c : Fin 128 → EReal) :
    Fin 16 → Fin 128 → Fin 128 → EReal := fun b n g =>
  max (((∑ f : Fin 64, m b n f * W (Fin.castAdd 64 f) g) + ∑ f : Fin 64, a b n f * W (Fin.natAdd 64 f) g) * ((1 / 128 : ℝ) : EReal) + c g) 0

end Cert.Proof.Spec
-- ==== Proof.KSimilar.lean ====
module

public import proofs.«01_k».proof.Proof.Select
public import proofs.«01_k».proof.Proof.Tiles
public import proofs.«01_k».proof.Proof.Spec

@[expose] public section

set_option maxRecDepth 16384

/-!
# What the body computes: similarities and selection
-/

noncomputable section

open Idealize.ShloMosaic Idealize.ShloMosaic.TcCoe Idealize.SL.Sem

namespace Cert.Proof.KSimilar

open Cert.KernelIdeal Cert.KernelIdeal.Gen Cert.Proof.Tiles

/-- One batch's similarities, before the factor. -/
def gram (q : FVec Ideal S2048x32 .f32) (b : Fin 16) : FVec Ideal S128x128 .f32 :=
  matmul dot_S128x32_S128x32_S128x128_1_1_0_0_n_n none (rows32 q b) (rows32 q b) (constant S128x128 .f32 0x00000000#32)

/-- All batches' similarities. -/
def gramAll (q : FVec Ideal S2048x32 .f32) : FVec Ideal S16x128x128 .f32 :=
  mulf (stack128 (gram q)) (broadcast S16x128x128 (Named.named κ "inv_sqrt_qk" 0x3E3504F3#32))

/-- The body's similarities are made batch by batch. -/
theorem pay12_eq (v0 : Vec Ideal S16x128x128 .f32) (v10 : Vec Ideal S128x32 .f32) (v12 : Vec Ideal S1x32 .f32) :
    k0_pay12 (k0_pay3 v0 v10 v12) (k0_pay4 v0 v10 v12) (k0_pay5 v0 v10 v12) (k0_pay6 v0 v10 v12) (k0_pay7 v0 v10 v12)
      (k0_pay8 v0 v10 v12) (k0_pay9 v0 v10 v12) (k0_pay10 v0 v10 v12) (k0_pay11 v0 v10 v12) = gramAll (k0_pay3 v0 v10 v12) := rfl

/-- The projected rows at an index. -/
theorem pay3_apply (v0 : Vec Ideal S16x128x128 .f32) (v10 : Vec Ideal S128x32 .f32) (v12 : Vec Ideal S1x32 .f32) (b : Fin 16) (n : Fin 128)
    (d : Fin 32) :
    k0_pay3 v0 v10 v12 (ix2 (place b n) d) = Spec.dense (fun b n k => v0 (ix3 b n k)) (fun k f => v10 (ix2 k f)) (fun f => v12 (ix2 0 f)) b n d := by
  pointwise [k0_pay3, k0_pay1, Spec.dense, place_div, place_mod]

/-- The body's similarities at an index. -/
theorem gramAll_apply (q : FVec Ideal S2048x32 .f32) (b : Fin 16) (n k : Fin 128) :
    gramAll q (ix3 b n k) = Spec.similar (fun b n d => q (ix2 (place b n) d)) b n k := by
  pointwise [gramAll, stack128_apply, gram, rows32_apply, Spec.similar]
  rw [Consts.invSqrt]

end Cert.Proof.KSimilar
-- ==== Proof.KNodes.lean ====
module

public import proofs.«01_k».proof.Proof.Tiles
public import proofs.«01_k».proof.Proof.Spec

@[expose] public section

set_option maxRecDepth 16384

/-!
# What the body computes: node rows, hyperedge rows, and their shares of the first attention layer
-/

noncomputable section

open Idealize.ShloMosaic Idealize.ShloMosaic.TcCoe Idealize.SL.Sem

namespace Cert.Proof.KNodes

open Cert.Proof.Spec (cube mat only)
open Cert.KernelIdeal Cert.KernelIdeal.Gen Cert.Proof.Tiles

/-- An array of 2048 rows as a table per batch. -/
def byRow {w : ℕ} (x : FVec Ideal (⟨2, ![2048, w]⟩ : Shape) .f32) : Fin 16 → Fin 128 → Fin w → EReal := fun b n f => x (ix2 (place b n) f)

/-- The first layer's rows. -/
theorem pay2_eq (v0 : FVec Ideal S16x128x128 .f32) (v2 : FVec Ideal S128x64 .f32) (v4 : FVec Ideal S1x64 .f32) :
    byRow (w := 64) (k0_pay2 v0 v2 v4) = Spec.relu (Spec.dense (cube v0) (mat v2) (only v4)) := by
  funext b n f
  pointwise [byRow, k0_pay2, k0_pay1, Spec.dense, Spec.relu, cube, mat, only, place_div, place_mod]

/-- The node rows: two more layers. -/
theorem pay65_eq (v9 : FVec Ideal S2048x64 .f32) (v872 : FVec Ideal S64x128 .f32) (v874 : FVec Ideal S1x128 .f32)
    (v880 : FVec Ideal S128x64 .f32) (v882 : FVec Ideal S1x64 .f32) :
    byRow (w := 64) (k0_pay65 v9 v872 (constant S2048x128 .f32 0x00000000#32) v874 v880 v882) =
      Spec.relu (Spec.dense (Spec.relu (Spec.dense (byRow v9) (mat v872) (only v874))) (mat v880) (only v882)) := by
  funext b n f
  pointwise [byRow, k0_pay65, Spec.dense, Spec.relu, cube, mat, only]

/-- One batch's hyperedge rows: the selection times the node rows. -/
def gather (H : FVec Ideal S16x128x128 .f32) (xf : FVec Ideal S2048x64 .f32) (b : Fin 16) : FVec Ideal S128x64 .f32 :=
  matmul dot_S128x128_S128x64_S128x64_1_0_0_1_n_n none (slab H b) (rows64 xf b) (constant S128x64 .f32 0x00000000#32)

/-- The hyperedge share of the first attention layer, from the hyperedge rows. -/
def edgeShare (e : FVec Ideal S2048x64 .f32) (v953 : FVec Ideal S128x32 .f32) (v956 : FVec Ideal S1x32 .f32) : FVec Ideal S16x128x32 .f32 :=
  shapeCast S16x128x32 (addf (matmul dot_S2048x64_S64x32_S2048x32_1_0_0_1_n_n none e
      (extractStridedSlice S64x32 ![64, 0] v953 slices_S128x32_o64_0_S64x32) (constant S2048x32 .f32 0x00000000#32))
    (broadcastTo S2048x32 (shapeCast S1x32 v956 shapeCasts_S1x32_S1x32) broadcasts_S1x32_S2048x32)) shapeCasts_S2048x32_S16x128x32

/-- One batch's node share of the first attention layer, transposed. -/
def nodeTile (v953 : FVec Ideal S128x32 .f32) (xf : FVec Ideal S2048x64 .f32) (b : Fin 16) : FVec Ideal S32x128 .f32 :=
  matmul dot_S64x32_S128x64_S32x128_0_1_1_0_n_n none (extractStridedSlice S64x32 ![0, 0] v953 slices_S128x32_o0_0_S64x32)
    (rows64 xf b) (constant S32x128 .f32 0x00000000#32)

/-- The hyperedge share is made batch by batch. -/
theorem pay74_eq (H : FVec Ideal S16x128x128 .f32) (v9 : FVec Ideal S2048x64 .f32) (v872 : FVec Ideal S64x128 .f32)
    (z : FVec Ideal S2048x128 .f32) (v874 : FVec Ideal S1x128 .f32) (v880 : FVec Ideal S128x64 .f32) (v882 : FVec Ideal S1x64 .f32)
    (v953 : FVec Ideal S128x32 .f32) (v956 : FVec Ideal S1x32 .f32) :
    k0_pay74 H (k0_pay65 v9 v872 z v874 v880 v882) (k0_pay66 v9 H v872 z v874 v880 v882) (k0_pay67 v9 H v872 z v874 v880 v882)
      (k0_pay68 v9 H v872 z v874 v880 v882) (k0_pay69 v9 H v872 z v874 v880 v882) (k0_pay70 v9 H v872 z v874 v880 v882)
      (k0_pay71 v9 H v872 z v874 v880 v882) (k0_pay72 v9 H v872 z v874 v880 v882) (k0_pay73 H) v953 v956
      = edgeShare (pile (gather H (k0_pay65 v9 v872 z v874 v880 v882))) v953 v956 := rfl

/-- The node share is made batch by batch. -/
theorem pay94_eq (xf : FVec Ideal S2048x64 .f32) (v953 : FVec Ideal S128x32 .f32) :
    k0_pay94 (k0_pay77 (k0_pay75 v953) (k0_pay76 xf)) (k0_pay78 xf v953) (k0_pay79 xf v953) (k0_pay80 xf v953) (k0_pay81 xf v953)
      (k0_pay82 xf v953) (k0_pay83 xf v953) (k0_pay84 xf v953) (k0_pay85 xf v953) (k0_pay86 xf v953) (k0_pay87 xf v953)
      (k0_pay88 xf v953) (k0_pay89 xf v953) (k0_pay90 xf v953) (k0_pay91 xf v953) (k0_pay92 v953) (k0_pay93 xf)
      = stack32 (nodeTile v953 xf) := rfl

/-- The hyperedge rows at an index. -/
theorem gather_eq (H : FVec Ideal S16x128x128 .f32) (xf : FVec Ideal S2048x64 .f32) :
    byRow (w := 64) (pile (gather H xf)) = Spec.product (cube H) (byRow xf) := by
  funext b n f
  unfold byRow
  rw [pile_apply]
  pointwise [gather, slab_apply, rows64_apply, Spec.product, cube]

/-- The hyperedge share at an index. -/
theorem edgeShare_apply (e : FVec Ideal S2048x64 .f32) (v953 : FVec Ideal S128x32 .f32) (v956 : FVec Ideal S1x32 .f32)
    (b : Fin 16) (i : Fin 128) (c : Fin 32) :
    edgeShare e v953 v956 (ix3 b i c) =
      (∑ f : Fin 64, byRow (w := 64) e b i f * v953 (ix2 (Fin.natAdd 64 f) c)) + v956 (ix2 0 c) := by
  pointwise [edgeShare, byRow, place]
  rfl

/-- The node share at an index. -/
theorem nodeShare_apply (xf : FVec Ideal S2048x64 .f32) (v953 : FVec Ideal S128x32 .f32) (b : Fin 16) (c : Fin 32) (j : Fin 128) :
    stack32 (nodeTile v953 xf) (ix3 b c j) = ∑ f : Fin 64, v953 (ix2 (Fin.castAdd 64 f) c) * byRow (w := 64) xf b j f := by
  rw [stack32_apply]
  pointwise [nodeTile, rows64_apply, byRow]
  rfl

end Cert.Proof.KNodes
-- ==== Proof.KScores.lean ====
module

public import proofs.«01_k».proof.Proof.KNodes
public import proofs.«01_k».proof.Proof.Consts

@[expose] public section

set_option maxRecDepth 16384

/-!
# What the body computes: attention scores and row weights
-/

noncomputable section

open Idealize.ShloMosaic Idealize.ShloMosaic.TcCoe Idealize.SL.Sem

namespace Cert.Proof.KScores

open Cert.Proof.Spec (cube)
open Cert.KernelIdeal Cert.KernelIdeal.Gen Cert.Proof.Tiles Cert.Proof.KNodes

theorem fitsEdge (c : Fin 32) : S16x128x32.Slices ![0, 0, c.val] S16x128x1 :=
  ⟨rfl, fun a => by fin_cases a <;> simp <;> omega⟩

theorem fitsNode (c : Fin 32) : S16x32x128.Slices ![0, c.val, 0] S16x1x128 :=
  ⟨rfl, fun a => by fin_cases a <;> simp <;> omega⟩

theorem fitsWeight (c : Fin 32) : S32x1.Slices ![c.val, 0] S1x1 :=
  ⟨rfl, fun a => by fin_cases a <;> simp <;> omega⟩

/-- The hidden feature `c` of every pair, weighted: what one step of the body adds. -/
def term (ea : FVec Ideal S16x128x32 .f32) (xT : FVec Ideal S16x32x128 .f32) (w : FVec Ideal S32x1 .f32) (c : Fin 32) :
    FVec Ideal S16x128x128 .f32 :=
  mulf (maximumf (addf
      (broadcastTo S16x128x128 (extractStridedSlice S16x128x1 ![0, 0, c.val] ea (fitsEdge c)) broadcasts_S16x128x1_S16x128x128)
      (broadcastTo S16x128x128 (extractStridedSlice S16x1x128 ![0, c.val, 0] xT (fitsNode c)) broadcasts_S16x1x128_S16x128x128))
      (broadcast S16x128x128 (Scalar.ofBits .f32 0x00000000#32)))
    (broadcastTo S16x128x128 (shapeCast S1x1x1 (extractStridedSlice S1x1 ![c.val, 0] w (fitsWeight c)) shapeCasts_S1x1_S1x1x1)
      broadcasts_S1x1x1_S16x128x128)

/-- Terms added one after the other to zero. -/
def chain (t : Fin 32 → FVec Ideal S16x128x128 .f32) (l : List (Fin 32)) : FVec Ideal S16x128x128 .f32 :=
  l.foldl (fun a c => addf a (t c)) (broadcast S16x128x128 (Scalar.ofBits .f32 0x00000000#32))

/-- The scores from the four chains. -/
def scores (t : Fin 32 → FVec Ideal S16x128x128 .f32) (b2 : FVec Ideal S1x1 .f32) : FVec Ideal S16x128x128 .f32 :=
  maximumf (addf (addf (addf (chain t [0, 4, 8, 12, 16, 20, 24, 28]) (chain t [1, 5, 9, 13, 17, 21, 25, 29]))
      (addf (chain t [2, 6, 10, 14, 18, 22, 26, 30]) (chain t [3, 7, 11, 15, 19, 23, 27, 31])))
    (broadcastTo S16x128x128 (shapeCast S1x1x1 (shapeCast S1x1 b2 shapeCasts_S1x1_S1x1) shapeCasts_S1x1_S1x1x1)
      broadcasts_S1x1x1_S16x128x128)) (broadcast S16x128x128 (Scalar.ofBits .f32 0x00000000#32))

/-- A row's numbers laid along the row. -/
def along (r : FVec Ideal S16x128 .f32) : FVec Ideal S16x128x128 .f32 :=
  broadcastTo S16x128x128 (shapeCast S16x128x1 r shapeCasts_S16x128_S16x128x1) broadcasts_S16x128x1_S16x128x128

/-- Exponentials of masked scores over the row's greatest. -/
def raised (m : FVec Ideal S16x128x128 .f32) : FVec Ideal S16x128x128 .f32 :=
  exp (subf m (along (multiReduction .maximumf [2] S16x128 m 0xFF800000#32 reduces_S16x128x128_S16x128 (.inl rfl) rfl)))

/-- The row weights from masked scores. -/
def normed (H m : FVec Ideal S16x128x128 .f32) : FVec Ideal S16x128x128 .f32 :=
  mulf (divf (raised m) (along (multiReduction .add [2] S16x128 (raised m) 0x00000000#32 reduces_S16x128x128_S16x128 (.inl rfl) rfl))) H

section folds

variable (H : FVec Ideal S16x128x128 .f32) (ea : FVec Ideal S16x128x32 .f32) (w : FVec Ideal S32x1 .f32) (b2 : FVec Ideal S1x1 .f32)
  (y0 y1 y2 y3 y4 y5 y6 y7 y8 y9 y10 y11 y12 y13 y14 : FVec Ideal S32x128 .f32) (y15 : FVec Ideal S64x32 .f32) (y16 : FVec Ideal S128x64 .f32)

/-- The chain of the features 2, 6, …, as far as it goes before the last step. -/
theorem chain2 :
    k0_pay129 ea (k0_pay94 y0 y1 y2 y3 y4 y5 y6 y7 y8 y9 y10 y11 y12 y13 y14 y15 y16) w (k0_pay125 ea (k0_pay94 y0 y1 y2 y3 y4 y5 y6 y7 y8 y9 y10 y11 y12 y13 y14 y15 y16) w (k0_pay120 ea (k0_pay94 y0 y1 y2 y3 y4 y5 y6 y7 y8 y9 y10 y11 y12 y13 y14 y15 y16) w (k0_pay114 ea (k0_pay94 y0 y1 y2 y3 y4 y5 y6 y7 y8 y9 y10 y11 y12 y13 y14 y15 y16) w (k0_pay109 ea (k0_pay94 y0 y1 y2 y3 y4 y5 y6 y7 y8 y9 y10 y11 y12 y13 y14 y15 y16) w
      (k0_pay101 w (k0_pay95 (F := Ideal)) (k0_pay99 ea) (k0_pay100 y0 y1 y2 y3 y4 y5 y6 y7 y8 y9 y10 y11 y12 y13 y14 y15 y16))
      (k0_pay105 ea (k0_pay94 y0 y1 y2 y3 y4 y5 y6 y7 y8 y9 y10 y11 y12 y13 y14 y15 y16) w))))) = chain (term ea (k0_pay94 y0 y1 y2 y3 y4 y5 y6 y7 y8 y9 y10 y11 y12 y13 y14 y15 y16) w) [2, 6, 10, 14, 18, 22, 26] := rfl

/-- The chain of the features 3, 7, …, as far as it goes before the last step. -/
theorem chain3 :
    k0_pay130 ea (k0_pay94 y0 y1 y2 y3 y4 y5 y6 y7 y8 y9 y10 y11 y12 y13 y14 y15 y16) w (k0_pay126 ea (k0_pay94 y0 y1 y2 y3 y4 y5 y6 y7 y8 y9 y10 y11 y12 y13 y14 y15 y16) w (k0_pay121 ea (k0_pay94 y0 y1 y2 y3 y4 y5 y6 y7 y8 y9 y10 y11 y12 y13 y14 y15 y16) w (k0_pay115 ea (k0_pay94 y0 y1 y2 y3 y4 y5 y6 y7 y8 y9 y10 y11 y12 y13 y14 y15 y16) w (k0_pay106 ea (k0_pay94 y0 y1 y2 y3 y4 y5 y6 y7 y8 y9 y10 y11 y12 y13 y14 y15 y16) w
      (k0_pay102 ea (k0_pay94 y0 y1 y2 y3 y4 y5 y6 y7 y8 y9 y10 y11 y12 y13 y14 y15 y16) w (k0_pay96 (F := Ideal)))) (k0_pay110 ea (k0_pay94 y0 y1 y2 y3 y4 y5 y6 y7 y8 y9 y10 y11 y12 y13 y14 y15 y16)) (k0_pay111 (F := Ideal)))))
      = chain (term ea (k0_pay94 y0 y1 y2 y3 y4 y5 y6 y7 y8 y9 y10 y11 y12 y13 y14 y15 y16) w) [3, 7, 11, 15, 19, 23, 27] := rfl

/-- The chain of the features 0, 4, …. -/
theorem chain0 :
    k0_pay131 ea (k0_pay94 y0 y1 y2 y3 y4 y5 y6 y7 y8 y9 y10 y11 y12 y13 y14 y15 y16) w (k0_pay127 ea (k0_pay94 y0 y1 y2 y3 y4 y5 y6 y7 y8 y9 y10 y11 y12 y13 y14 y15 y16) w (k0_pay118 w (k0_pay112 ea (k0_pay94 y0 y1 y2 y3 y4 y5 y6 y7 y8 y9 y10 y11 y12 y13 y14 y15 y16) w (k0_pay107 ea (k0_pay94 y0 y1 y2 y3 y4 y5 y6 y7 y8 y9 y10 y11 y12 y13 y14 y15 y16) w (k0_pay103 ea (k0_pay94 y0 y1 y2 y3 y4 y5 y6 y7 y8 y9 y10 y11 y12 y13 y14 y15 y16) w
      (k0_pay97 ea y0 y1 y2 y3 y4 y5 y6 y7 y8 y9 y10 y11 y12 y13 y14 y15 y16 w)))) (k0_pay116 ea) (k0_pay117 (k0_pay94 y0 y1 y2 y3 y4 y5 y6 y7 y8 y9 y10 y11 y12 y13 y14 y15 y16)))
      (k0_pay122 ea (k0_pay94 y0 y1 y2 y3 y4 y5 y6 y7 y8 y9 y10 y11 y12 y13 y14 y15 y16)) (k0_pay123 w)) = chain (term ea (k0_pay94 y0 y1 y2 y3 y4 y5 y6 y7 y8 y9 y10 y11 y12 y13 y14 y15 y16) w) [0, 4, 8, 12, 16, 20, 24, 28] := rfl

/-- The chain of the features 1, 5, …. -/
theorem chain1 :
    k0_pay132 ea (k0_pay94 y0 y1 y2 y3 y4 y5 y6 y7 y8 y9 y10 y11 y12 y13 y14 y15 y16) w (k0_pay124 ea (k0_pay94 y0 y1 y2 y3 y4 y5 y6 y7 y8 y9 y10 y11 y12 y13 y14 y15 y16) w (k0_pay119 ea (k0_pay94 y0 y1 y2 y3 y4 y5 y6 y7 y8 y9 y10 y11 y12 y13 y14 y15 y16) w (k0_pay113 ea (k0_pay94 y0 y1 y2 y3 y4 y5 y6 y7 y8 y9 y10 y11 y12 y13 y14 y15 y16) w (k0_pay108 ea (k0_pay94 y0 y1 y2 y3 y4 y5 y6 y7 y8 y9 y10 y11 y12 y13 y14 y15 y16) w (k0_pay104 ea (k0_pay94 y0 y1 y2 y3 y4 y5 y6 y7 y8 y9 y10 y11 y12 y13 y14 y15 y16) w
      (k0_pay98 ea y0 y1 y2 y3 y4 y5 y6 y7 y8 y9 y10 y11 y12 y13 y14 y15 y16 w)))))) (k0_pay128 ea (k0_pay94 y0 y1 y2 y3 y4 y5 y6 y7 y8 y9 y10 y11 y12 y13 y14 y15 y16))
      = chain (term ea (k0_pay94 y0 y1 y2 y3 y4 y5 y6 y7 y8 y9 y10 y11 y12 y13 y14 y15 y16) w) [1, 5, 9, 13, 17, 21, 25, 29] := rfl

end folds

/-- The row weights from the chains. -/
theorem pay133_eq (H : FVec Ideal S16x128x128 .f32) (ea : FVec Ideal S16x128x32 .f32) (xT : FVec Ideal S16x32x128 .f32)
    (w : FVec Ideal S32x1 .f32) (b2 : FVec Ideal S1x1 .f32) :
    k0_pay133 H ea xT w (chain (term ea xT w) [2, 6, 10, 14, 18, 22, 26]) (chain (term ea xT w) [3, 7, 11, 15, 19, 23, 27])
      (chain (term ea xT w) [0, 4, 8, 12, 16, 20, 24, 28]) (chain (term ea xT w) [1, 5, 9, 13, 17, 21, 25, 29]) b2
      = normed H (mulf (scores (term ea xT w) b2) H) := rfl

/-- A term at an index. -/
theorem term_apply (ea : FVec Ideal S16x128x32 .f32) (xT : FVec Ideal S16x32x128 .f32) (w : FVec Ideal S32x1 .f32) (c : Fin 32)
    (b : Fin 16) (i j : Fin 128) :
    term ea xT w c (ix3 b i j) = max (ea (ix3 b i c) + xT (ix3 b c j)) 0 * w (ix2 c 0) := by
  pointwise [term]

/-- A chain at an index is the sum of its terms there. -/
theorem chain_apply (t : Fin 32 → FVec Ideal S16x128x128 .f32) (l : List (Fin 32)) (j : S16x128x128.Idx) :
    chain t l j = (l.map fun c => (t c j : EReal)).sum := by
  have h : ∀ (l : List (Fin 32)) (a : FVec Ideal S16x128x128 .f32),
      l.foldl (fun a c => addf a (t c)) a j = (a j : EReal) + (l.map fun c => (t c j : EReal)).sum := by
    intro l
    induction l with
    | nil => intro a; simp
    | cons c l ih => intro a; rw [List.foldl_cons, ih, List.map_cons, List.sum_cons, ← add_assoc]; rfl
  unfold chain
  rw [h]
  have z : (broadcast S16x128x128 (Scalar.ofBits (F := Ideal) .f32 0x00000000#32)) j = (0 : EReal) := by
    pointwise
  rw [z, zero_add]

/-- The four chains hold every feature once. -/
theorem four_chains (f : Fin 32 → EReal) :
    (([0, 4, 8, 12, 16, 20, 24, 28] : List (Fin 32)).map f).sum + (([1, 5, 9, 13, 17, 21, 25, 29] : List (Fin 32)).map f).sum
      + ((([2, 6, 10, 14, 18, 22, 26, 30] : List (Fin 32)).map f).sum + (([3, 7, 11, 15, 19, 23, 27, 31] : List (Fin 32)).map f).sum)
      = ∑ c, f c := by
  rw [Fin.sum_univ_def, ← List.sum_append, ← List.sum_append, ← List.sum_append, ← List.map_append, ← List.map_append, ← List.map_append]
  exact List.Perm.sum_eq (List.Perm.map f (by decide))

/-- The scores at an index. -/
theorem scores_apply (ea : FVec Ideal S16x128x32 .f32) (xT : FVec Ideal S16x32x128 .f32) (w : FVec Ideal S32x1 .f32)
    (b2 : FVec Ideal S1x1 .f32) (b : Fin 16) (i j : Fin 128) :
    scores (term ea xT w) b2 (ix3 b i j) =
      max ((∑ c : Fin 32, max (ea (ix3 b i c) + xT (ix3 b c j)) 0 * w (ix2 c 0)) + b2 (ix2 0 0)) 0 := by
  pointwise [scores]
  simp only [chain_apply, term_apply]
  rw [four_chains]

/-- The row weights at an index. -/
theorem normed_apply (H s : FVec Ideal S16x128x128 .f32) (b : Fin 16) (i j : Fin 128) :
    normed H (mulf s H) (ix3 b i j) = Spec.weights (cube H) (cube s) b i j := by
  pointwise [normed, raised, along, Spec.weights, cube]
  rw [Consts.negInf]

end Cert.Proof.KScores
-- ==== Proof.KOut.lean ====
module

public import proofs.«01_k».proof.Proof.KNodes
public import proofs.«01_k».proof.Proof.Consts

@[expose] public section

set_option maxRecDepth 16384

/-!
# What the body computes: the messages back to the nodes and the last two layers
-/

noncomputable section

open Idealize.ShloMosaic Idealize.ShloMosaic.TcCoe Idealize.SL.Sem

namespace Cert.Proof.KOut

open Cert.Proof.Spec (cube mat only)
open Cert.KernelIdeal Cert.KernelIdeal.Gen Cert.Proof.Tiles Cert.Proof.KNodes

/-- One batch's messages: the row weights times the node rows, then the selection's columns times that. -/
def message (H Hw : FVec Ideal S16x128x128 .f32) (xf : FVec Ideal S2048x64 .f32) (b : Fin 16) : FVec Ideal S128x64 .f32 :=
  matmul dot_S128x128_S128x64_S128x64_0_0_1_1_n_n none (slab H b)
    (matmul dot_S128x128_S128x64_S128x64_1_0_0_1_n_n none (slab Hw b) (rows64 xf b) (constant S128x64 .f32 0x00000000#32))
    (constant S128x64 .f32 0x00000000#32)

/-- The last two layers, from the messages `m` and the first layer's rows `a`. -/
def finish (a m : FVec Ideal S2048x64 .f32) (v1549 : FVec Ideal S128x128 .f32) (v1557 : FVec Ideal S1x128 .f32)
    (v1563 : FVec Ideal S128x64 .f32) (v1565 : FVec Ideal S1x64 .f32) : FVec Ideal S16x128x64 .f32 :=
  shapeCast S16x128x64 (maximumf (addf (matmul dot_S2048x128_S128x64_S2048x64_1_0_0_1_n_n none
      (maximumf (addf (mulf (addf
          (matmul dot_S2048x64_S64x128_S2048x128_1_0_0_1_n_n none m (extractStridedSlice S64x128 ![0, 0] v1549 slices_S128x128_o0_0_S64x128)
            (constant S2048x128 .f32 0x00000000#32))
          (matmul dot_S2048x64_S64x128_S2048x128_1_0_0_1_n_n none a (extractStridedSlice S64x128 ![64, 0] v1549 slices_S128x128_o64_0_S64x128)
            (constant S2048x128 .f32 0x00000000#32)))
          (broadcast S2048x128 (Scalar.ofBits .f32 0x3C000000#32)))
        (broadcastTo S2048x128 (shapeCast S1x128 v1557 shapeCasts_S1x128_S1x128) broadcasts_S1x128_S2048x128))
        (broadcast S2048x128 (Scalar.ofBits .f32 0x00000000#32)))
      v1563 (constant S2048x64 .f32 0x00000000#32))
    (broadcastTo S2048x64 (shapeCast S1x64 v1565 shapeCasts_S1x64_S1x64) broadcasts_S1x64_S2048x64))
    (broadcast S2048x64 (Scalar.ofBits .f32 0x00000000#32))) shapeCasts_S2048x64_S16x128x64

/-- The stored output is made batch by batch, then row by row. -/
theorem pay154_eq (a : FVec Ideal S2048x64 .f32) (H : FVec Ideal S16x128x128 .f32) (xf : FVec Ideal S2048x64 .f32)
    (ea : FVec Ideal S16x128x32 .f32) (xT : FVec Ideal S16x32x128 .f32) (w : FVec Ideal S32x1 .f32)
    (c0 c1 c2 c3 : FVec Ideal S16x128x128 .f32) (b2 : FVec Ideal S1x1 .f32) (v1549 : FVec Ideal S128x128 .f32) (v1557 : FVec Ideal S1x128 .f32)
    (v1563 : FVec Ideal S128x64 .f32) (v1565 : FVec Ideal S1x64 .f32) :
    k0_pay154 a H xf (k0_pay133 H ea xT w c2 c3 c0 c1 b2)
      (k0_pay136 (k0_pay134 H) (k0_pay135 H xf ea xT w c2 c3 c0 c1 b2) (constant S128x64 .f32 0x00000000#32))
      (k0_pay137 H xf (k0_pay133 H ea xT w c2 c3 c0 c1 b2)) (k0_pay138 H xf (k0_pay133 H ea xT w c2 c3 c0 c1 b2))
      (k0_pay139 H xf (k0_pay133 H ea xT w c2 c3 c0 c1 b2)) (k0_pay140 H xf (k0_pay133 H ea xT w c2 c3 c0 c1 b2))
      (k0_pay141 H xf (k0_pay133 H ea xT w c2 c3 c0 c1 b2)) (k0_pay142 H xf (k0_pay133 H ea xT w c2 c3 c0 c1 b2))
      (k0_pay146 (k0_pay143 H) (k0_pay144 (k0_pay133 H ea xT w c2 c3 c0 c1 b2)) (k0_pay145 xf))
      (k0_pay147 H xf (k0_pay133 H ea xT w c2 c3 c0 c1 b2)) (k0_pay148 H xf (k0_pay133 H ea xT w c2 c3 c0 c1 b2))
      (k0_pay149 H xf (k0_pay133 H ea xT w c2 c3 c0 c1 b2)) (k0_pay150 H xf (k0_pay133 H ea xT w c2 c3 c0 c1 b2))
      (k0_pay151 H xf (k0_pay133 H ea xT w c2 c3 c0 c1 b2)) (k0_pay152 H xf (k0_pay133 H ea xT w c2 c3 c0 c1 b2))
      (k0_pay153 H) v1549 v1557 v1563 v1565
      = finish a (pile (message H (k0_pay133 H ea xT w c2 c3 c0 c1 b2) xf)) v1549 v1557 v1563 v1565 := rfl

/-- The messages at an index. -/
theorem message_eq (H Hw : FVec Ideal S16x128x128 .f32) (xf : FVec Ideal S2048x64 .f32) :
    byRow (w := 64) (pile (message H Hw xf)) = Spec.product (Spec.flip (cube H)) (Spec.product (cube Hw) (byRow xf)) := by
  funext b n f
  unfold byRow
  rw [pile_apply]
  pointwise [message, slab_apply, rows64_apply, Spec.product, Spec.flip, cube]

/-- The output at an index. -/
theorem finish_apply (a m : FVec Ideal S2048x64 .f32) (v1549 : FVec Ideal S128x128 .f32) (v1557 : FVec Ideal S1x128 .f32)
    (v1563 : FVec Ideal S128x64 .f32) (v1565 : FVec Ideal S1x64 .f32) (b : Fin 16) (n : Fin 128) (f : Fin 64) :
    finish a m v1549 v1557 v1563 v1565 (ix3 b n f) =
      Spec.relu (Spec.dense (fun b n g => max (((∑ t : Fin 64, byRow (w := 64) m b n t * v1549 (ix2 (Fin.castAdd 64 t) g))
          + ∑ t : Fin 64, byRow (w := 64) a b n t * v1549 (ix2 (Fin.natAdd 64 t) g)) * ((1 / 128 : ℝ) : EReal) + v1557 (ix2 0 g)) 0)
        (mat v1563) (only v1565)) b n f := by
  pointwise [finish, byRow, place, Spec.relu, Spec.dense, mat, only, Consts.oneOver128]
  rfl

end Cert.Proof.KOut
-- ==== Proof.KBlock.lean ====
module

public import proofs.«01_k».proof.Proof.Select
public import proofs.«01_k».proof.Proof.KSimilar
public import proofs.«01_k».proof.Proof.KScores
public import proofs.«01_k».proof.Proof.KOut

@[expose] public section

set_option maxRecDepth 16384

/-!
# What the body computes, whole: the selection and the output of one grid point
-/

noncomputable section

open Idealize.ShloMosaic Idealize.ShloMosaic.TcCoe Idealize.SL.Sem

namespace Cert.Proof.KBlock

open Cert.Proof.Spec (cube mat only)
open Cert.KernelIdeal Cert.KernelIdeal.Gen Cert.Proof.Tiles Cert.Proof.KNodes Cert.Proof.KScores Cert.Proof.KOut Cert.Proof.KSimilar
  Cert.Proof.SortFold

/-- The offsets of a whole block of two axes. -/
theorem zero2 : (![0, 0] : Fin 2 → ℕ) = fun _ => 0 := by funext a; fin_cases a <;> rfl

/-- The offsets of a whole block of three axes. -/
theorem zero3 : (![0, 0, 0] : Fin 3 → ℕ) = fun _ => 0 := by funext a; fin_cases a <;> rfl

/-- A load of the whole 16x128x128 block is the block. -/
theorem ld0 (x : FVec Ideal S16x128x128 .f32) : View.ld (Val := Elt Ideal) (e' := .f32) x r0_0 = x :=
  View.ld_unit_zero (Val := Elt Ideal) (S := S16x128x128) (e := .f32) zero3 _ x

/-- A load of the whole 128x64 block is the block. -/
theorem ld1 (x : FVec Ideal S128x64 .f32) : View.ld (Val := Elt Ideal) (e' := .f32) x r0_1 = x :=
  View.ld_unit_zero (Val := Elt Ideal) (S := S128x64) (e := .f32) zero2 _ x

/-- A load of the whole 1x64 block is the block. -/
theorem ld2 (x : FVec Ideal S1x64 .f32) : View.ld (Val := Elt Ideal) (e' := .f32) x r0_2 = x :=
  View.ld_unit_zero (Val := Elt Ideal) (S := S1x64) (e := .f32) zero2 _ x

/-- A load of the whole 128x32 block is the block. -/
theorem ld3 (x : FVec Ideal S128x32 .f32) : View.ld (Val := Elt Ideal) (e' := .f32) x r0_3 = x :=
  View.ld_unit_zero (Val := Elt Ideal) (S := S128x32) (e := .f32) zero2 _ x

/-- A load of the whole 1x32 block is the block. -/
theorem ld4 (x : FVec Ideal S1x32 .f32) : View.ld (Val := Elt Ideal) (e' := .f32) x r0_4 = x :=
  View.ld_unit_zero (Val := Elt Ideal) (S := S1x32) (e := .f32) zero2 _ x

/-- A load of the whole 64x128 block is the block. -/
theorem ld5 (x : FVec Ideal S64x128 .f32) : View.ld (Val := Elt Ideal) (e' := .f32) x r0_5 = x :=
  View.ld_unit_zero (Val := Elt Ideal) (S := S64x128) (e := .f32) zero2 _ x

/-- A load of the whole 1x128 block is the block. -/
theorem ld6 (x : FVec Ideal S1x128 .f32) : View.ld (Val := Elt Ideal) (e' := .f32) x r0_6 = x :=
  View.ld_unit_zero (Val := Elt Ideal) (S := S1x128) (e := .f32) zero2 _ x

/-- A load of the whole 32x1 block is the block. -/
theorem ld7 (x : FVec Ideal S32x1 .f32) : View.ld (Val := Elt Ideal) (e' := .f32) x r0_7 = x :=
  View.ld_unit_zero (Val := Elt Ideal) (S := S32x1) (e := .f32) zero2 _ x

/-- A load of the whole 1x1 block is the block. -/
theorem ld8 (x : FVec Ideal S1x1 .f32) : View.ld (Val := Elt Ideal) (e' := .f32) x r0_8 = x :=
  View.ld_unit_zero (Val := Elt Ideal) (S := S1x1) (e := .f32) zero2 _ x

/-- A load of the whole 128x128 block is the block. -/
theorem ld9 (x : FVec Ideal S128x128 .f32) : View.ld (Val := Elt Ideal) (e' := .f32) x r0_9 = x :=
  View.ld_unit_zero (Val := Elt Ideal) (S := S128x128) (e := .f32) zero2 _ x

variable (x0 : FVec Ideal S16x128x128 .f32) (x1 : FVec Ideal S128x64 .f32) (x2 : FVec Ideal S1x64 .f32) (x3 : FVec Ideal S128x32 .f32)
  (x4 : FVec Ideal S1x32 .f32) (x5 : FVec Ideal S64x128 .f32) (x6 : FVec Ideal S1x128 .f32) (x7 : FVec Ideal S128x64 .f32)
  (x8 : FVec Ideal S1x64 .f32) (x9 : FVec Ideal S128x32 .f32) (x10 : FVec Ideal S1x32 .f32) (x11 : FVec Ideal S32x1 .f32)
  (x12 : FVec Ideal S1x1 .f32) (x13 : FVec Ideal S128x128 .f32) (x14 : FVec Ideal S1x128 .f32) (x15 : FVec Ideal S128x64 .f32)
  (x16 : FVec Ideal S1x64 .f32)

/-- The similarities. -/
theorem similar_eq : cube (m := 128) (n := 128) (k0_pay157 (F := Ideal) x0 x1 x2 x3 x4 x5 x6 x7 x8 x9 x10 x11 x12 x13 x14 x15 x16) =
    Spec.similar (Spec.dense (cube x0) (mat x3) (only x4)) := by
  have h : k0_pay157 (F := Ideal) x0 x1 x2 x3 x4 x5 x6 x7 x8 x9 x10 x11 x12 x13 x14 x15 x16 = gramAll (k0_pay3 x0 x3 x4) := by
    unfold k0_pay157
    simp only [ld0, ld3, ld4]
    exact pay12_eq x0 x3 x4
  funext b n k
  rw [h]
  refine (gramAll_apply _ b n k).trans ?_
  simp only [pay3_apply]
  rfl

/-- The selection. -/
theorem selection : cube (m := 128) (n := 128) (k0_pay165 (F := Ideal) x0 x1 x2 x3 x4 x5 x6 x7 x8 x9 x10 x11 x12 x13 x14 x15 x16) =
    Spec.hot (Spec.similar (Spec.dense (cube x0) (mat x3) (only x4))) := by
  funext b n j
  rw [selection_eq, ← similar_eq x0 x1 x2 x3 x4 x5 x6 x7 x8 x9 x10 x11 x12 x13 x14 x15 x16]
  exact Select.choose_netSort _ b n j

/-- The first layer's rows. -/
theorem rows_eq : byRow (w := 64) (k0_pay155 (F := Ideal) x0 x1 x2 x3 x4 x5 x6 x7 x8 x9 x10 x11 x12 x13 x14 x15 x16) = Spec.relu (Spec.dense (cube x0) (mat x1) (only x2)) := by
  unfold k0_pay155
  simp only [ld0, ld1, ld2]
  exact pay2_eq x0 x1 x2

/-- The node rows, unloaded. -/
theorem nodes_unfold : k0_pay166 (F := Ideal) x0 x1 x2 x3 x4 x5 x6 x7 x8 x9 x10 x11 x12 x13 x14 x15 x16 = k0_pay65 (k0_pay155 x0 x1 x2 x3 x4 x5 x6 x7 x8 x9 x10 x11 x12 x13 x14 x15 x16) x5 (constant S2048x128 .f32 0x00000000#32) x6 x7 x8 := by
  unfold k0_pay166 k0_pay164
  simp only [ld5, ld6, ld1, ld2]

/-- The node rows. -/
theorem nodes_eq : byRow (w := 64) (k0_pay166 (F := Ideal) x0 x1 x2 x3 x4 x5 x6 x7 x8 x9 x10 x11 x12 x13 x14 x15 x16) =
    Spec.relu (Spec.dense (Spec.relu (Spec.dense (Spec.relu (Spec.dense (cube x0) (mat x1) (only x2))) (mat x5) (only x6))) (mat x7) (only x8)) := by
  rw [nodes_unfold, pay65_eq, rows_eq]

/-- The hyperedge share of the scores' first layer. -/
theorem edge_eq : k0_pay167 (F := Ideal) x0 x1 x2 x3 x4 x5 x6 x7 x8 x9 x10 x11 x12 x13 x14 x15 x16 = edgeShare (pile (gather (k0_pay165 x0 x1 x2 x3 x4 x5 x6 x7 x8 x9 x10 x11 x12 x13 x14 x15 x16) (k0_pay166 x0 x1 x2 x3 x4 x5 x6 x7 x8 x9 x10 x11 x12 x13 x14 x15 x16))) x9 x10 := by
  unfold k0_pay167 k0_pay164
  rw [nodes_unfold]
  simp only [ld5, ld6, ld1, ld2, ld3, ld4]
  exact pay74_eq (k0_pay165 x0 x1 x2 x3 x4 x5 x6 x7 x8 x9 x10 x11 x12 x13 x14 x15 x16) (k0_pay155 x0 x1 x2 x3 x4 x5 x6 x7 x8 x9 x10 x11 x12 x13 x14 x15 x16) x5 _ x6 x7 x8 x9 x10

/-- The node share of the scores' first layer. -/
theorem node_eq : k0_pay185 (F := Ideal) x0 x1 x2 x3 x4 x5 x6 x7 x8 x9 x10 x11 x12 x13 x14 x15 x16 = stack32 (nodeTile x9 (k0_pay166 x0 x1 x2 x3 x4 x5 x6 x7 x8 x9 x10 x11 x12 x13 x14 x15 x16)) := by
  unfold k0_pay185 k0_pay168 k0_pay169 k0_pay170 k0_pay171 k0_pay172 k0_pay173 k0_pay174 k0_pay175 k0_pay176 k0_pay177 k0_pay178 k0_pay179
    k0_pay180 k0_pay181 k0_pay182 k0_pay183 k0_pay184
  simp only [ld3]
  exact pay94_eq (k0_pay166 x0 x1 x2 x3 x4 x5 x6 x7 x8 x9 x10 x11 x12 x13 x14 x15 x16) x9

/-- The chain of the features 2, 6, …. -/
theorem chain2_eq : k0_pay186 (F := Ideal) x0 x1 x2 x3 x4 x5 x6 x7 x8 x9 x10 x11 x12 x13 x14 x15 x16 = chain (term (k0_pay167 x0 x1 x2 x3 x4 x5 x6 x7 x8 x9 x10 x11 x12 x13 x14 x15 x16) (k0_pay185 x0 x1 x2 x3 x4 x5 x6 x7 x8 x9 x10 x11 x12 x13 x14 x15 x16) x11) [2, 6, 10, 14, 18, 22, 26] := by
  unfold k0_pay186
  simp only [ld7]
  exact chain2 (k0_pay167 x0 x1 x2 x3 x4 x5 x6 x7 x8 x9 x10 x11 x12 x13 x14 x15 x16) x11 (k0_pay168 x0 x1 x2 x3 x4 x5 x6 x7 x8 x9 x10 x11 x12 x13 x14 x15 x16) (k0_pay169 x0 x1 x2 x3 x4 x5 x6 x7 x8 x9 x10 x11 x12 x13 x14 x15 x16) (k0_pay170 x0 x1 x2 x3 x4 x5 x6 x7 x8 x9 x10 x11 x12 x13 x14 x15 x16) (k0_pay171 x0 x1 x2 x3 x4 x5 x6 x7 x8 x9 x10 x11 x12 x13 x14 x15 x16) (k0_pay172 x0 x1 x2 x3 x4 x5 x6 x7 x8 x9 x10 x11 x12 x13 x14 x15 x16) (k0_pay173 x0 x1 x2 x3 x4 x5 x6 x7 x8 x9 x10 x11 x12 x13 x14 x15 x16) (k0_pay174 x0 x1 x2 x3 x4 x5 x6 x7 x8 x9 x10 x11 x12 x13 x14 x15 x16) (k0_pay175 x0 x1 x2 x3 x4 x5 x6 x7 x8 x9 x10 x11 x12 x13 x14 x15 x16) (k0_pay176 x0 x1 x2 x3 x4 x5 x6 x7 x8 x9 x10 x11 x12 x13 x14 x15 x16) (k0_pay177 x0 x1 x2 x3 x4 x5 x6 x7 x8 x9 x10 x11 x12 x13 x14 x15 x16) (k0_pay178 x0 x1 x2 x3 x4 x5 x6 x7 x8 x9 x10 x11 x12 x13 x14 x15 x16) (k0_pay179 x0 x1 x2 x3 x4 x5 x6 x7 x8 x9 x10 x11 x12 x13 x14 x15 x16) (k0_pay180 x0 x1 x2 x3 x4 x5 x6 x7 x8 x9 x10 x11 x12 x13 x14 x15 x16) (k0_pay181 x0 x1 x2 x3 x4 x5 x6 x7 x8 x9 x10 x11 x12 x13 x14 x15 x16) (k0_pay182 x0 x1 x2 x3 x4 x5 x6 x7 x8 x9 x10 x11 x12 x13 x14 x15 x16) (k0_pay183 x0 x1 x2 x3 x4 x5 x6 x7 x8 x9 x10 x11 x12 x13 x14 x15 x16) (k0_pay184 x0 x1 x2 x3 x4 x5 x6 x7 x8 x9 x10 x11 x12 x13 x14 x15 x16)

/-- The chain of the features 3, 7, …. -/
theorem chain3_eq : k0_pay187 (F := Ideal) x0 x1 x2 x3 x4 x5 x6 x7 x8 x9 x10 x11 x12 x13 x14 x15 x16 = chain (term (k0_pay167 x0 x1 x2 x3 x4 x5 x6 x7 x8 x9 x10 x11 x12 x13 x14 x15 x16) (k0_pay185 x0 x1 x2 x3 x4 x5 x6 x7 x8 x9 x10 x11 x12 x13 x14 x15 x16) x11) [3, 7, 11, 15, 19, 23, 27] := by
  unfold k0_pay187
  simp only [ld7]
  exact chain3 (k0_pay167 x0 x1 x2 x3 x4 x5 x6 x7 x8 x9 x10 x11 x12 x13 x14 x15 x16) x11 (k0_pay168 x0 x1 x2 x3 x4 x5 x6 x7 x8 x9 x10 x11 x12 x13 x14 x15 x16) (k0_pay169 x0 x1 x2 x3 x4 x5 x6 x7 x8 x9 x10 x11 x12 x13 x14 x15 x16) (k0_pay170 x0 x1 x2 x3 x4 x5 x6 x7 x8 x9 x10 x11 x12 x13 x14 x15 x16) (k0_pay171 x0 x1 x2 x3 x4 x5 x6 x7 x8 x9 x10 x11 x12 x13 x14 x15 x16) (k0_pay172 x0 x1 x2 x3 x4 x5 x6 x7 x8 x9 x10 x11 x12 x13 x14 x15 x16) (k0_pay173 x0 x1 x2 x3 x4 x5 x6 x7 x8 x9 x10 x11 x12 x13 x14 x15 x16) (k0_pay174 x0 x1 x2 x3 x4 x5 x6 x7 x8 x9 x10 x11 x12 x13 x14 x15 x16) (k0_pay175 x0 x1 x2 x3 x4 x5 x6 x7 x8 x9 x10 x11 x12 x13 x14 x15 x16) (k0_pay176 x0 x1 x2 x3 x4 x5 x6 x7 x8 x9 x10 x11 x12 x13 x14 x15 x16) (k0_pay177 x0 x1 x2 x3 x4 x5 x6 x7 x8 x9 x10 x11 x12 x13 x14 x15 x16) (k0_pay178 x0 x1 x2 x3 x4 x5 x6 x7 x8 x9 x10 x11 x12 x13 x14 x15 x16) (k0_pay179 x0 x1 x2 x3 x4 x5 x6 x7 x8 x9 x10 x11 x12 x13 x14 x15 x16) (k0_pay180 x0 x1 x2 x3 x4 x5 x6 x7 x8 x9 x10 x11 x12 x13 x14 x15 x16) (k0_pay181 x0 x1 x2 x3 x4 x5 x6 x7 x8 x9 x10 x11 x12 x13 x14 x15 x16) (k0_pay182 x0 x1 x2 x3 x4 x5 x6 x7 x8 x9 x10 x11 x12 x13 x14 x15 x16) (k0_pay183 x0 x1 x2 x3 x4 x5 x6 x7 x8 x9 x10 x11 x12 x13 x14 x15 x16) (k0_pay184 x0 x1 x2 x3 x4 x5 x6 x7 x8 x9 x10 x11 x12 x13 x14 x15 x16)

/-- The chain of the features 0, 4, …. -/
theorem chain0_eq : k0_pay188 (F := Ideal) x0 x1 x2 x3 x4 x5 x6 x7 x8 x9 x10 x11 x12 x13 x14 x15 x16 = chain (term (k0_pay167 x0 x1 x2 x3 x4 x5 x6 x7 x8 x9 x10 x11 x12 x13 x14 x15 x16) (k0_pay185 x0 x1 x2 x3 x4 x5 x6 x7 x8 x9 x10 x11 x12 x13 x14 x15 x16) x11) [0, 4, 8, 12, 16, 20, 24, 28] := by
  unfold k0_pay188
  simp only [ld7]
  exact chain0 (k0_pay167 x0 x1 x2 x3 x4 x5 x6 x7 x8 x9 x10 x11 x12 x13 x14 x15 x16) x11 (k0_pay168 x0 x1 x2 x3 x4 x5 x6 x7 x8 x9 x10 x11 x12 x13 x14 x15 x16) (k0_pay169 x0 x1 x2 x3 x4 x5 x6 x7 x8 x9 x10 x11 x12 x13 x14 x15 x16) (k0_pay170 x0 x1 x2 x3 x4 x5 x6 x7 x8 x9 x10 x11 x12 x13 x14 x15 x16) (k0_pay171 x0 x1 x2 x3 x4 x5 x6 x7 x8 x9 x10 x11 x12 x13 x14 x15 x16) (k0_pay172 x0 x1 x2 x3 x4 x5 x6 x7 x8 x9 x10 x11 x12 x13 x14 x15 x16) (k0_pay173 x0 x1 x2 x3 x4 x5 x6 x7 x8 x9 x10 x11 x12 x13 x14 x15 x16) (k0_pay174 x0 x1 x2 x3 x4 x5 x6 x7 x8 x9 x10 x11 x12 x13 x14 x15 x16) (k0_pay175 x0 x1 x2 x3 x4 x5 x6 x7 x8 x9 x10 x11 x12 x13 x14 x15 x16) (k0_pay176 x0 x1 x2 x3 x4 x5 x6 x7 x8 x9 x10 x11 x12 x13 x14 x15 x16) (k0_pay177 x0 x1 x2 x3 x4 x5 x6 x7 x8 x9 x10 x11 x12 x13 x14 x15 x16) (k0_pay178 x0 x1 x2 x3 x4 x5 x6 x7 x8 x9 x10 x11 x12 x13 x14 x15 x16) (k0_pay179 x0 x1 x2 x3 x4 x5 x6 x7 x8 x9 x10 x11 x12 x13 x14 x15 x16) (k0_pay180 x0 x1 x2 x3 x4 x5 x6 x7 x8 x9 x10 x11 x12 x13 x14 x15 x16) (k0_pay181 x0 x1 x2 x3 x4 x5 x6 x7 x8 x9 x10 x11 x12 x13 x14 x15 x16) (k0_pay182 x0 x1 x2 x3 x4 x5 x6 x7 x8 x9 x10 x11 x12 x13 x14 x15 x16) (k0_pay183 x0 x1 x2 x3 x4 x5 x6 x7 x8 x9 x10 x11 x12 x13 x14 x15 x16) (k0_pay184 x0 x1 x2 x3 x4 x5 x6 x7 x8 x9 x10 x11 x12 x13 x14 x15 x16)

/-- The chain of the features 1, 5, …. -/
theorem chain1_eq : k0_pay189 (F := Ideal) x0 x1 x2 x3 x4 x5 x6 x7 x8 x9 x10 x11 x12 x13 x14 x15 x16 = chain (term (k0_pay167 x0 x1 x2 x3 x4 x5 x6 x7 x8 x9 x10 x11 x12 x13 x14 x15 x16) (k0_pay185 x0 x1 x2 x3 x4 x5 x6 x7 x8 x9 x10 x11 x12 x13 x14 x15 x16) x11) [1, 5, 9, 13, 17, 21, 25, 29] := by
  unfold k0_pay189
  simp only [ld7]
  exact chain1 (k0_pay167 x0 x1 x2 x3 x4 x5 x6 x7 x8 x9 x10 x11 x12 x13 x14 x15 x16) x11 (k0_pay168 x0 x1 x2 x3 x4 x5 x6 x7 x8 x9 x10 x11 x12 x13 x14 x15 x16) (k0_pay169 x0 x1 x2 x3 x4 x5 x6 x7 x8 x9 x10 x11 x12 x13 x14 x15 x16) (k0_pay170 x0 x1 x2 x3 x4 x5 x6 x7 x8 x9 x10 x11 x12 x13 x14 x15 x16) (k0_pay171 x0 x1 x2 x3 x4 x5 x6 x7 x8 x9 x10 x11 x12 x13 x14 x15 x16) (k0_pay172 x0 x1 x2 x3 x4 x5 x6 x7 x8 x9 x10 x11 x12 x13 x14 x15 x16) (k0_pay173 x0 x1 x2 x3 x4 x5 x6 x7 x8 x9 x10 x11 x12 x13 x14 x15 x16) (k0_pay174 x0 x1 x2 x3 x4 x5 x6 x7 x8 x9 x10 x11 x12 x13 x14 x15 x16) (k0_pay175 x0 x1 x2 x3 x4 x5 x6 x7 x8 x9 x10 x11 x12 x13 x14 x15 x16) (k0_pay176 x0 x1 x2 x3 x4 x5 x6 x7 x8 x9 x10 x11 x12 x13 x14 x15 x16) (k0_pay177 x0 x1 x2 x3 x4 x5 x6 x7 x8 x9 x10 x11 x12 x13 x14 x15 x16) (k0_pay178 x0 x1 x2 x3 x4 x5 x6 x7 x8 x9 x10 x11 x12 x13 x14 x15 x16) (k0_pay179 x0 x1 x2 x3 x4 x5 x6 x7 x8 x9 x10 x11 x12 x13 x14 x15 x16) (k0_pay180 x0 x1 x2 x3 x4 x5 x6 x7 x8 x9 x10 x11 x12 x13 x14 x15 x16) (k0_pay181 x0 x1 x2 x3 x4 x5 x6 x7 x8 x9 x10 x11 x12 x13 x14 x15 x16) (k0_pay182 x0 x1 x2 x3 x4 x5 x6 x7 x8 x9 x10 x11 x12 x13 x14 x15 x16) (k0_pay183 x0 x1 x2 x3 x4 x5 x6 x7 x8 x9 x10 x11 x12 x13 x14 x15 x16) (k0_pay184 x0 x1 x2 x3 x4 x5 x6 x7 x8 x9 x10 x11 x12 x13 x14 x15 x16)

/-- The row weights, unloaded. -/
theorem weights_unfold : k0_pay190 (F := Ideal) x0 x1 x2 x3 x4 x5 x6 x7 x8 x9 x10 x11 x12 x13 x14 x15 x16 =
    k0_pay133 (k0_pay165 x0 x1 x2 x3 x4 x5 x6 x7 x8 x9 x10 x11 x12 x13 x14 x15 x16) (k0_pay167 x0 x1 x2 x3 x4 x5 x6 x7 x8 x9 x10 x11 x12 x13 x14 x15 x16) (k0_pay185 x0 x1 x2 x3 x4 x5 x6 x7 x8 x9 x10 x11 x12 x13 x14 x15 x16) x11 (k0_pay186 x0 x1 x2 x3 x4 x5 x6 x7 x8 x9 x10 x11 x12 x13 x14 x15 x16) (k0_pay187 x0 x1 x2 x3 x4 x5 x6 x7 x8 x9 x10 x11 x12 x13 x14 x15 x16) (k0_pay188 x0 x1 x2 x3 x4 x5 x6 x7 x8 x9 x10 x11 x12 x13 x14 x15 x16) (k0_pay189 x0 x1 x2 x3 x4 x5 x6 x7 x8 x9 x10 x11 x12 x13 x14 x15 x16) x12 := by
  unfold k0_pay190
  simp only [ld7, ld8]

/-- The scores. -/
theorem scores_eq : cube (m := 128) (n := 128) (scores (term (k0_pay167 (F := Ideal) x0 x1 x2 x3 x4 x5 x6 x7 x8 x9 x10 x11 x12 x13 x14 x15 x16) (k0_pay185 x0 x1 x2 x3 x4 x5 x6 x7 x8 x9 x10 x11 x12 x13 x14 x15 x16) x11) x12) =
    Spec.score (byRow (w := 64) (k0_pay166 (F := Ideal) x0 x1 x2 x3 x4 x5 x6 x7 x8 x9 x10 x11 x12 x13 x14 x15 x16)) (Spec.product (cube (k0_pay165 (F := Ideal) x0 x1 x2 x3 x4 x5 x6 x7 x8 x9 x10 x11 x12 x13 x14 x15 x16)) (byRow (w := 64) (k0_pay166 (F := Ideal) x0 x1 x2 x3 x4 x5 x6 x7 x8 x9 x10 x11 x12 x13 x14 x15 x16)))
      (mat x9) (only x10) (mat x11) (only x12) := by
  funext b i j
  refine (scores_apply _ _ _ _ b i j).trans ?_
  rw [edge_eq, node_eq]
  simp only [edgeShare_apply, nodeShare_apply, gather_eq]
  unfold Spec.score mat only
  refine congrArg (fun s => max (s + x12 (ix2 0 0)) 0) (Finset.sum_congr rfl fun c _ => ?_)
  refine congrArg (fun s => max s 0 * x11 (ix2 c 0)) ?_
  simp only [mul_comm (x9 _)]
  rw [add_comm, ← add_assoc]

/-- The row weights. -/
theorem weights_eq : cube (m := 128) (n := 128) (k0_pay190 (F := Ideal) x0 x1 x2 x3 x4 x5 x6 x7 x8 x9 x10 x11 x12 x13 x14 x15 x16) =
    Spec.weights (cube (k0_pay165 (F := Ideal) x0 x1 x2 x3 x4 x5 x6 x7 x8 x9 x10 x11 x12 x13 x14 x15 x16)) (Spec.score (byRow (w := 64) (k0_pay166 (F := Ideal) x0 x1 x2 x3 x4 x5 x6 x7 x8 x9 x10 x11 x12 x13 x14 x15 x16))
      (Spec.product (cube (k0_pay165 (F := Ideal) x0 x1 x2 x3 x4 x5 x6 x7 x8 x9 x10 x11 x12 x13 x14 x15 x16)) (byRow (w := 64) (k0_pay166 (F := Ideal) x0 x1 x2 x3 x4 x5 x6 x7 x8 x9 x10 x11 x12 x13 x14 x15 x16))) (mat x9) (only x10) (mat x11) (only x12)) := by
  rw [← scores_eq]
  funext b i j
  rw [weights_unfold, chain0_eq, chain1_eq, chain2_eq, chain3_eq, pay133_eq]
  exact normed_apply _ _ b i j

/-- The block written to the second result. -/
theorem out18_eq : out0_18 (F := Ideal) x0 x1 x2 x3 x4 x5 x6 x7 x8 x9 x10 x11 x12 x13 x14 x15 x16 = k0_pay165 (F := Ideal) x0 x1 x2 x3 x4 x5 x6 x7 x8 x9 x10 x11 x12 x13 x14 x15 x16 := by
  unfold out0_18
  exact View.canon_unit_zero zero3 _ _

/-- The block written to the first result. -/
theorem out17_eq : out0_17 (F := Ideal) x0 x1 x2 x3 x4 x5 x6 x7 x8 x9 x10 x11 x12 x13 x14 x15 x16 =
    finish (k0_pay155 x0 x1 x2 x3 x4 x5 x6 x7 x8 x9 x10 x11 x12 x13 x14 x15 x16) (pile (message (k0_pay165 x0 x1 x2 x3 x4 x5 x6 x7 x8 x9 x10 x11 x12 x13 x14 x15 x16) (k0_pay190 x0 x1 x2 x3 x4 x5 x6 x7 x8 x9 x10 x11 x12 x13 x14 x15 x16) (k0_pay166 x0 x1 x2 x3 x4 x5 x6 x7 x8 x9 x10 x11 x12 x13 x14 x15 x16))) x13 x14 x15 x16 := by
  unfold out0_17
  refine (View.canon_unit_zero zero3 _ _).trans ?_
  simp only [ld1, ld2, ld6, ld7, ld8, ld9]
  rw [weights_unfold]
  exact pay154_eq (k0_pay155 x0 x1 x2 x3 x4 x5 x6 x7 x8 x9 x10 x11 x12 x13 x14 x15 x16) (k0_pay165 x0 x1 x2 x3 x4 x5 x6 x7 x8 x9 x10 x11 x12 x13 x14 x15 x16) (k0_pay166 x0 x1 x2 x3 x4 x5 x6 x7 x8 x9 x10 x11 x12 x13 x14 x15 x16) (k0_pay167 x0 x1 x2 x3 x4 x5 x6 x7 x8 x9 x10 x11 x12 x13 x14 x15 x16) (k0_pay185 x0 x1 x2 x3 x4 x5 x6 x7 x8 x9 x10 x11 x12 x13 x14 x15 x16) x11 (k0_pay188 x0 x1 x2 x3 x4 x5 x6 x7 x8 x9 x10 x11 x12 x13 x14 x15 x16) (k0_pay189 x0 x1 x2 x3 x4 x5 x6 x7 x8 x9 x10 x11 x12 x13 x14 x15 x16) (k0_pay186 x0 x1 x2 x3 x4 x5 x6 x7 x8 x9 x10 x11 x12 x13 x14 x15 x16)
    (k0_pay187 x0 x1 x2 x3 x4 x5 x6 x7 x8 x9 x10 x11 x12 x13 x14 x15 x16) x12 x13 x14 x15 x16

/-- The output. -/
theorem output : cube (m := 128) (n := 64) (out0_17 (F := Ideal) x0 x1 x2 x3 x4 x5 x6 x7 x8 x9 x10 x11 x12 x13 x14 x15 x16) =
    Spec.relu (Spec.dense (Spec.mixed
      (Spec.product (Spec.flip (cube (k0_pay165 (F := Ideal) x0 x1 x2 x3 x4 x5 x6 x7 x8 x9 x10 x11 x12 x13 x14 x15 x16))) (Spec.product (cube (k0_pay190 (F := Ideal) x0 x1 x2 x3 x4 x5 x6 x7 x8 x9 x10 x11 x12 x13 x14 x15 x16)) (byRow (w := 64) (k0_pay166 (F := Ideal) x0 x1 x2 x3 x4 x5 x6 x7 x8 x9 x10 x11 x12 x13 x14 x15 x16))))
      (byRow (w := 64) (k0_pay155 (F := Ideal) x0 x1 x2 x3 x4 x5 x6 x7 x8 x9 x10 x11 x12 x13 x14 x15 x16)) (mat x13) (only x14)) (mat x15) (only x16)) := by
  funext b n f
  rw [out17_eq, ← message_eq]
  exact finish_apply _ _ _ _ _ _ b n f

end Cert.Proof.KBlock
-- ==== Proof.RefSelect.lean ====
module

public import proofs.«01_k».proof.Proof.Rank
public import proofs.«01_k».proof.Proof.Consts
public import proofs.«01_k».proof.Proof.SortRows
public import proofs.«01_k».proof.Proof.Gen.ReferenceIdeal.Read

@[expose] public section

set_option maxRecDepth 16384

/-!
# The reference's selection

`top_k` over the similarities, one-hot rows of its indices, and their greatest: a one exactly at the 32 greatest of a row,
ties taken from the left.
-/

noncomputable section

open Idealize.ShloMosaic Idealize.ShloMosaic.TcCoe Idealize.SL.Sem

namespace Cert.Proof.RefSelect

open Cert.ReferenceIdeal Cert.ReferenceIdeal.Gen Cert.ReferenceIdeal.Read Cert.Proof.SortRows Cert.Proof.Consts Cert.Proof.Rank

/-- The source lane of place `m` in the descending stable order of row `n` of batch `b`. -/
def source (S : FVec Ideal S16x128x128 .f32) (b : Fin 16) (n : Fin 128) (m : Fin 32) : Fin 128 :=
  sortedFrom (fun k k' => decide (row S b n k' < row S b n k)) ⟨m.val, by omega⟩

/-- An index with its last coordinate replaced. -/
theorem along_ix3 (b : Fin 16) (n j k : Fin 128) :
    Shape.Idx.along (s := S16x128x128) (ix3 b n j) (2 : Fin 3) k = ix3 b n k := by
  funext a
  match a with
  | ⟨0, _⟩ => rfl
  | ⟨1, _⟩ => rfl
  | ⟨2, _⟩ => rfl

/-- The second operand of a two-operand sort along the last axis, at an index: read at the source lane. -/
theorem sort2_snd (cmp : EReal × BitVec 32 → EReal × BitVec 32 → BitVec 1) (x : S16x128x128.Idx → EReal) (y : S16x128x128.Idx → BitVec 32)
    (b : Fin 16) (n j : Fin 128) :
    (Host.sort2 S16x128x128 2 cmp x y).2 (ix3 b n j) =
      y (ix3 b n (sortedFrom (n := 128)
        (fun k k' => cmp (x (ix3 b n k), y (ix3 b n k)) (x (ix3 b n k'), y (ix3 b n k')) == 1#1) j)) := by
  have e : (fun k : Fin 128 => (ix3 b n k : S16x128x128.Idx)) = fun k => Shape.Idx.along (s := S16x128x128) (ix3 b n j) (2 : Fin 3) k :=
    funext fun k => (along_ix3 b n j k).symm
  show _ = y ((fun k : Fin 128 => (ix3 b n k : S16x128x128.Idx)) (sortedFrom (n := 128) (fun k k' =>
    cmp (x ((fun k : Fin 128 => (ix3 b n k : S16x128x128.Idx)) k), y ((fun k : Fin 128 => (ix3 b n k : S16x128x128.Idx)) k))
      (x ((fun k : Fin 128 => (ix3 b n k : S16x128x128.Idx)) k'), y ((fun k : Fin 128 => (ix3 b n k : S16x128x128.Idx)) k')) == 1#1) j))
  rw [e]
  rfl

/-- The indices of `top_k` are the source lanes. -/
theorem topK_indices (S : FVec Ideal S16x128x128 .f32) (h : S16x128x128.Slices (fun _ => 0) S16x128x32) (b : Fin 16) (n : Fin 128)
    (m : Fin 32) :
    (Host.topK S16x128x32 2 (FloatOps.cmpfTotal (F := Ideal) (φ := .f32) .gt) S h).2 (ix3 b n m) = BitVec.ofNat 32 (source S b n m).val := by
  unfold Host.topK
  pointwise
  rw [sort2_snd]
  have hr : (fun k k' => (fun l r => FloatOps.cmpfTotal (F := Ideal) (φ := .f32) .gt l.1 r.1) (S (ix3 b n k), BitVec.ofNat 32 k.val)
      (S (ix3 b n k'), BitVec.ofNat 32 k'.val) == 1#1) = fun k k' => decide (row S b n k' < row S b n k) := by
    funext k k'
    show (BitVec.ofBool (decide (S (ix3 b n k') < S (ix3 b n k))) == 1#1) = decide (S (ix3 b n k') < S (ix3 b n k))
    cases decide (S (ix3 b n k') < S (ix3 b n k)) <;> rfl
  exact congrArg (fun r => BitVec.ofNat 32 (sortedFrom (n := 128) r ⟨m.val, by omega⟩).val) hr

/-- The greatest of finitely many ones and zeros, started at `⊥`. -/
theorem fold_max_indicator {n : ℕ} [NeZero n] (p : Fin n → Prop) [DecidablePred p] :
    Finset.fold max (⊥ : EReal) (fun m => if p m then (1 : EReal) else 0) Finset.univ = if ∃ m, p m then 1 else 0 := by
  have hle : ∀ c : EReal, Finset.fold max (⊥ : EReal) (fun m => if p m then (1 : EReal) else 0) Finset.univ ≤ c ↔
      ∀ m, (if p m then (1 : EReal) else 0) ≤ c := fun c => by simp [Finset.fold_max_le]
  refine le_antisymm ((hle _).2 fun m => ?_) ?_
  · by_cases h : p m
    · rw [if_pos h, if_pos ⟨m, h⟩]
    · rw [if_neg h]; split <;> simp
  · by_cases h : ∃ m, p m
    · obtain ⟨m, hm⟩ := h
      have := (hle _).1 le_rfl m
      rw [if_pos hm] at this
      rwa [if_pos ⟨m, hm⟩]
    · have := (hle _).1 le_rfl (0 : Fin n)
      rw [if_neg fun hp => h ⟨_, hp⟩] at this
      rwa [if_neg h]

/-- A one-hot entry: a lane number compared with a lane number. -/
theorem hot_entry (k j : Fin 128) :
    (FloatOps.uitofp (F := Ideal) .f32 (IntOp.cmpi .eq (BitVec.ofNat 32 k.val) (BitVec.ofNat 32 j.val)) : EReal) = if k = j then 1 else 0 := by
  rw [WordCmp.cmpi_eq_ofNat (by omega) (by omega)]
  have hval : k.val = j.val ↔ k = j := Fin.ext_iff.symm
  show (((BitVec.ofBool (decide (k.val = j.val))).toNat : ℝ) : EReal) = _
  by_cases h : k = j
  · rw [decide_eq_true (hval.2 h), if_pos h]; simp
  · rw [decide_eq_false (mt hval.1 h), if_neg h]; simp

/-- THE REFERENCE'S SELECTION: one where the similarity is among the 32 greatest of its row, ties from the left. -/
theorem hot_apply (x0 : FVec Ideal S16x128x128 .f32) (x3 : FVec Ideal S128x32 .f32) (x4 : FVec Ideal S32 .f32) (b : Fin 16) (n j : Fin 128) :
    val_main_v15 (F := Ideal) x0 x3 x4 (ix3 b n j) = if rank (row (val_main_v13 (F := Ideal) x0 x3 x4) b n) j < 32 then 1 else 0 := by
  unfold val_main_v15 val_main_v14 val_main_call1_v4 val_main_call1_v3 val_main_call1_v2 val_main_call1_v1 val_main_call1_v0 val_main_cst_0
  generalize hI : val_main_indices (F := Ideal) x0 x3 x4 = I
  pointwise
  have hI' : ∀ m : Fin 32, I (ix3 b n m) = BitVec.ofNat 32 (source (val_main_v13 (F := Ideal) x0 x3 x4) b n m).val := fun m => by
    rw [← hI]; exact topK_indices _ _ b n m
  simp only [hI', hot_entry, negInf]
  rw [fold_max_indicator]
  refine if_congr ?_ rfl rfl
  rw [← exists_place_iff (row (val_main_v13 (F := Ideal) x0 x3 x4) b n) 32 j]
  exact ⟨fun ⟨m, hm⟩ => ⟨⟨m.val, by omega⟩, m.isLt, hm⟩, fun ⟨m, hm, he⟩ => ⟨⟨m.val, hm⟩, he⟩⟩

end Cert.Proof.RefSelect
-- ==== Proof.RefHead.lean ====
module

public import proofs.«01_k».proof.Proof.RefSelect
public import proofs.«01_k».proof.Proof.Spec

@[expose] public section

set_option maxRecDepth 16384

/-!
# What the reference computes: similarities, selection, node rows and hyperedge rows
-/

noncomputable section

open Idealize.ShloMosaic Idealize.ShloMosaic.TcCoe Idealize.SL.Sem

namespace Cert.Proof.RefHead

open Cert.Proof.Spec (cube mat vec)
open Cert.ReferenceIdeal Cert.ReferenceIdeal.Gen Cert.ReferenceIdeal.Read

variable (x0 : FVec Ideal S16x128x128 .f32) (x1 : FVec Ideal S128x64 .f32) (x2 : FVec Ideal S64 .f32) (x3 : FVec Ideal S128x32 .f32)
  (x4 : FVec Ideal S32 .f32) (x5 : FVec Ideal S64x128 .f32) (x6 : FVec Ideal S128 .f32) (x7 : FVec Ideal S128x64 .f32)
  (x8 : FVec Ideal S64 .f32)

/-- The first layer's rows. -/
theorem v4_eq : cube (m := 128) (n := 64) (val_main_v4 (F := Ideal) x0 x1 x2) = Spec.relu (Spec.dense (cube x0) (mat x1) (vec x2)) := by
  funext b n f
  pointwise [val_main_v4, val_main_v3, val_main_v2, val_main_v1, val_main_v0, val_main_call0_v0, val_main_call0_cst, Spec.relu, Spec.dense,
    cube, mat, vec]

/-- The projected rows. -/
theorem v8_eq : cube (m := 128) (n := 32) (val_main_v8 (F := Ideal) x0 x3 x4) = Spec.dense (cube x0) (mat x3) (vec x4) := by
  funext b n f
  pointwise [val_main_v8, val_main_v7, val_main_v6, val_main_v5, Spec.dense, cube, mat, vec]

/-- The similarities. -/
theorem v13_eq : cube (m := 128) (n := 128) (val_main_v13 (F := Ideal) x0 x3 x4) =
    Spec.similar (cube (m := 128) (n := 32) (val_main_v8 (F := Ideal) x0 x3 x4)) := by
  funext b n k
  pointwise [val_main_v13, val_main_v12, val_main_v11, val_main_v10, val_main_v9, val_main_cst, Spec.similar, cube]
  have h0 : ¬ (32 : ℝ) < 0 := by norm_num
  have h1 : Real.sqrt 32 ≠ 0 := by positivity
  rw [Consts.thirtyTwo, Ideal.sqrt_coe, if_neg h0, Ideal.div_coe h1, one_div]

/-- The selection. -/
theorem v15_eq : cube (m := 128) (n := 128) (val_main_v15 (F := Ideal) x0 x3 x4) =
    Spec.hot (cube (m := 128) (n := 128) (val_main_v13 (F := Ideal) x0 x3 x4)) := by
  funext b n j
  exact RefSelect.hot_apply x0 x3 x4 b n j

/-- The node rows: two more layers. -/
theorem v25_eq : cube (m := 128) (n := 64) (val_main_v25 (F := Ideal) x0 x1 x2 x5 x6 x7 x8) =
    Spec.relu (Spec.dense (Spec.relu (Spec.dense (cube (m := 128) (n := 64) (val_main_v4 (F := Ideal) x0 x1 x2)) (mat x5) (vec x6)))
      (mat x7) (vec x8)) := by
  funext b n f
  pointwise [val_main_v25, val_main_v24, val_main_v23, val_main_v22, val_main_v21, val_main_v20, val_main_v19, val_main_v18, val_main_v17,
    val_main_v16, val_main_call2_v0, val_main_call2_cst, val_main_call3_v0, val_main_call3_cst, Spec.relu, Spec.dense, cube, mat, vec]

/-- The hyperedge rows: the selection times the node rows. -/
theorem v26_eq : cube (m := 128) (n := 64) (val_main_v26 (F := Ideal) x0 x1 x2 x3 x4 x5 x6 x7 x8) =
    Spec.product (cube (m := 128) (n := 128) (val_main_v15 (F := Ideal) x0 x3 x4))
      (cube (m := 128) (n := 64) (val_main_v25 (F := Ideal) x0 x1 x2 x5 x6 x7 x8)) := by
  funext b n f
  pointwise [val_main_v26, Spec.product, cube]

end Cert.Proof.RefHead
-- ==== Proof.RefTail.lean ====
module

public import proofs.«01_k».proof.Proof.RefHead

@[expose] public section

set_option maxRecDepth 16384

/-!
# What the reference computes: scores, row weights, messages and the output
-/

noncomputable section

open Idealize.ShloMosaic Idealize.ShloMosaic.TcCoe Idealize.SL.Sem

namespace Cert.Proof.RefTail

open Cert.Proof.Spec (cube mat vec)
open Cert.ReferenceIdeal Cert.ReferenceIdeal.Gen Cert.ReferenceIdeal.Read

variable (x0 : FVec Ideal S16x128x128 .f32) (x1 : FVec Ideal S128x64 .f32) (x2 : FVec Ideal S64 .f32) (x3 : FVec Ideal S128x32 .f32)
  (x4 : FVec Ideal S32 .f32) (x5 : FVec Ideal S64x128 .f32) (x6 : FVec Ideal S128 .f32) (x7 : FVec Ideal S128x64 .f32)
  (x8 : FVec Ideal S64 .f32) (x9 : FVec Ideal S128x32 .f32) (x10 : FVec Ideal S32 .f32) (x11 : FVec Ideal S32x1 .f32)
  (x12 : FVec Ideal S1 .f32) (x13 : FVec Ideal S128x128 .f32) (x14 : FVec Ideal S128 .f32) (x15 : FVec Ideal S128x64 .f32)
  (x16 : FVec Ideal S64 .f32)

/-- A sum over 128 features is the sum over the first 64 and the last 64. -/
theorem sum_halves (f : Fin 128 → EReal) : ∑ k, f k = (∑ k : Fin 64, f (Fin.castAdd 64 k)) + ∑ k : Fin 64, f (Fin.natAdd 64 k) :=
  Fin.sum_univ_add (a := 64) (b := 64) f

/-- The joined rows' first half is the node's row. -/
theorem v31_left (b : Fin 16) (i j : Fin 128) (f : Fin 64) :
    val_main_v31 (F := Ideal) x0 x1 x2 x3 x4 x5 x6 x7 x8 (ix4 b i j (Fin.castAdd 64 f : Fin 128)) =
      val_main_v25 (F := Ideal) x0 x1 x2 x5 x6 x7 x8 (ix3 b j f) := by
  pointwise [val_main_v31, val_main_v30, val_main_v29, val_main_v28, val_main_v27]
  rw [dif_pos (show (Fin.castAdd 64 f : Fin 128).val < 64 from f.isLt)]
  rfl

/-- The joined rows' second half is the hyperedge's row. -/
theorem v31_right (b : Fin 16) (i j : Fin 128) (f : Fin 64) :
    val_main_v31 (F := Ideal) x0 x1 x2 x3 x4 x5 x6 x7 x8 (ix4 b i j (Fin.natAdd 64 f : Fin 128)) =
      val_main_v26 (F := Ideal) x0 x1 x2 x3 x4 x5 x6 x7 x8 (ix3 b i f) := by
  pointwise [val_main_v31, val_main_v30, val_main_v29, val_main_v28, val_main_v27]
  rw [dif_neg (show ¬ (Fin.natAdd 64 f : Fin 128).val < 64 by simp)]
  exact congrArg (fun k => val_main_v26 (F := Ideal) x0 x1 x2 x3 x4 x5 x6 x7 x8 (ix3 b i k)) (Fin.ext (by simp))

/-- The scores. -/
theorem v42_eq : cube (m := 128) (n := 128) (val_main_v42 (F := Ideal) x0 x1 x2 x3 x4 x5 x6 x7 x8 x9 x10 x11 x12) =
    Spec.score (cube (m := 128) (n := 64) (val_main_v25 (F := Ideal) x0 x1 x2 x5 x6 x7 x8))
      (cube (m := 128) (n := 64) (val_main_v26 (F := Ideal) x0 x1 x2 x3 x4 x5 x6 x7 x8)) (mat x9) (vec x10) (mat x11) (vec x12) := by
  funext b i j
  pointwise [val_main_v42, val_main_v41, val_main_v40, val_main_v39, val_main_v38, val_main_v37, val_main_v36, val_main_v35, val_main_v34,
    val_main_v33, val_main_v32, val_main_call4_v0, val_main_call4_cst, val_main_call5_v0, val_main_call5_cst,
    Spec.score, cube, mat, vec]
  simp only [sum_halves, v31_left, v31_right]

/-- The row weights. -/
theorem v55_eq : cube (m := 128) (n := 128) (val_main_v55 (F := Ideal) x0 x1 x2 x3 x4 x5 x6 x7 x8 x9 x10 x11 x12) =
    Spec.weights (cube (m := 128) (n := 128) (val_main_v15 (F := Ideal) x0 x3 x4))
      (cube (m := 128) (n := 128) (val_main_v42 (F := Ideal) x0 x1 x2 x3 x4 x5 x6 x7 x8 x9 x10 x11 x12)) := by
  funext b i j
  pointwise [val_main_v55, val_main_v54, val_main_v53, val_main_v52, val_main_v51, val_main_v50, val_main_v49, val_main_v48, val_main_v47,
    val_main_v46, val_main_v45, val_main_v44, val_main_v43, val_main_cst_1, val_main_cst_2, val_main_cst_3, Spec.weights, cube]
  rw [Consts.negInf]
  simp only [max_eq_right bot_le]

/-- The messages. -/
theorem v58_eq : cube (m := 128) (n := 64) (val_main_v58 (F := Ideal) x0 x1 x2 x3 x4 x5 x6 x7 x8 x9 x10 x11 x12) =
    Spec.product (Spec.flip (cube (m := 128) (n := 128) (val_main_v15 (F := Ideal) x0 x3 x4)))
      (Spec.product (cube (m := 128) (n := 128) (val_main_v55 (F := Ideal) x0 x1 x2 x3 x4 x5 x6 x7 x8 x9 x10 x11 x12))
        (cube (m := 128) (n := 64) (val_main_v25 (F := Ideal) x0 x1 x2 x5 x6 x7 x8))) := by
  funext b n f
  pointwise [val_main_v58, val_main_v57, val_main_v56, Spec.product, Spec.flip, cube]

/-- The joined rows' first half is the messages, over 128. -/
theorem v61_left (b : Fin 16) (n : Fin 128) (f : Fin 64) :
    val_main_v61 (F := Ideal) x0 x1 x2 x3 x4 x5 x6 x7 x8 x9 x10 x11 x12 (ix3 b n (Fin.castAdd 64 f : Fin 128)) =
      val_main_v58 (F := Ideal) x0 x1 x2 x3 x4 x5 x6 x7 x8 x9 x10 x11 x12 (ix3 b n f) * ((1 / 128 : ℝ) : EReal) := by
  pointwise [val_main_v61, val_main_v60, val_main_v59, val_main_cst_4]
  rw [dif_pos (show (Fin.castAdd 64 f : Fin 128).val < 64 from f.isLt), Consts.oneTwentyEight, Ideal.div_coe (by norm_num)]
  rfl

/-- The joined rows' second half is the first layer's rows, over 128. -/
theorem v61_right (b : Fin 16) (n : Fin 128) (f : Fin 64) :
    val_main_v61 (F := Ideal) x0 x1 x2 x3 x4 x5 x6 x7 x8 x9 x10 x11 x12 (ix3 b n (Fin.natAdd 64 f : Fin 128)) =
      val_main_v4 (F := Ideal) x0 x1 x2 (ix3 b n f) * ((1 / 128 : ℝ) : EReal) := by
  pointwise [val_main_v61, val_main_v60, val_main_v59, val_main_cst_4]
  rw [dif_neg (show ¬ (Fin.natAdd 64 f : Fin 128).val < 64 by simp), Consts.oneTwentyEight, Ideal.div_coe (by norm_num)]
  exact congrArg (fun k => val_main_v4 (F := Ideal) x0 x1 x2 (ix3 b n k) * ((1 / 128 : ℝ) : EReal)) (Fin.ext (by simp))

/-- A positive real factor goes through a sum of products. -/
theorem sum_scale (r : ℝ) (hr : 0 < r) {n : ℕ} (f g : Fin n → EReal) :
    ∑ k, f k * (r : EReal) * g k = (∑ k, f k * g k) * (r : EReal) := by
  induction n with
  | zero => simp
  | succ n ih =>
    rw [Fin.sum_univ_castSucc, Fin.sum_univ_castSucc, ih,
      EReal.right_distrib_of_nonneg_of_ne_top (EReal.coe_nonneg.mpr hr.le) (EReal.coe_ne_top r), mul_right_comm]

/-- The layer on messages and rows joined. -/
theorem v66_eq : cube (m := 128) (n := 128) (val_main_v66 (F := Ideal) x0 x1 x2 x3 x4 x5 x6 x7 x8 x9 x10 x11 x12 x13 x14) =
    Spec.mixed (cube (m := 128) (n := 64) (val_main_v58 (F := Ideal) x0 x1 x2 x3 x4 x5 x6 x7 x8 x9 x10 x11 x12))
      (cube (m := 128) (n := 64) (val_main_v4 (F := Ideal) x0 x1 x2)) (mat x13) (vec x14) := by
  funext b n g
  pointwise [val_main_v66, val_main_v65, val_main_v64, val_main_v63, val_main_v62, val_main_call6_v0, val_main_call6_cst,
    Spec.mixed, cube, mat, vec]
  simp only [sum_halves, v61_left, v61_right, sum_scale (1 / 128) (by norm_num)]
  rw [EReal.right_distrib_of_nonneg_of_ne_top (EReal.coe_nonneg.mpr (by norm_num)) (EReal.coe_ne_top _)]

/-- The output. -/
theorem v71_eq : cube (m := 128) (n := 64) (val_main_v71 (F := Ideal) x0 x1 x2 x3 x4 x5 x6 x7 x8 x9 x10 x11 x12 x13 x14 x15 x16) =
    Spec.relu (Spec.dense (cube (m := 128) (n := 128) (val_main_v66 (F := Ideal) x0 x1 x2 x3 x4 x5 x6 x7 x8 x9 x10 x11 x12 x13 x14))
      (mat x15) (vec x16)) := by
  funext b n f
  pointwise [val_main_v71, val_main_v70, val_main_v69, val_main_v68, val_main_v67, val_main_call7_v0, val_main_call7_cst, Spec.relu,
    Spec.dense, cube, mat, vec]

end Cert.Proof.RefTail
-- ==== Proof.Equation.lean ====
module

public import proofs.«01_k».proof.Proof.KBlock
public import proofs.«01_k».proof.Proof.RefTail

@[expose] public section

set_option maxRecDepth 16384

/-!
# The block the body computes is the reference's result
-/

noncomputable section

open Idealize.ShloMosaic Idealize.ShloMosaic.TcCoe Idealize.SL.Sem

namespace Cert.Proof.Equation

open Cert.Proof.Spec (cube mat only vec)

variable (x0 : FVec Ideal Cert.ReferenceIdeal.S16x128x128 .f32) (x1 : FVec Ideal Cert.ReferenceIdeal.S128x64 .f32) (x2 : FVec Ideal Cert.ReferenceIdeal.S64 .f32) (x3 : FVec Ideal Cert.ReferenceIdeal.S128x32 .f32) (x4 : FVec Ideal Cert.ReferenceIdeal.S32 .f32) (x5 : FVec Ideal Cert.ReferenceIdeal.S64x128 .f32) (x6 : FVec Ideal Cert.ReferenceIdeal.S128 .f32) (x7 : FVec Ideal Cert.ReferenceIdeal.S128x64 .f32) (x8 : FVec Ideal Cert.ReferenceIdeal.S64 .f32) (x9 : FVec Ideal Cert.ReferenceIdeal.S128x32 .f32) (x10 : FVec Ideal Cert.ReferenceIdeal.S32 .f32) (x11 : FVec Ideal Cert.ReferenceIdeal.S32x1 .f32) (x12 : FVec Ideal Cert.ReferenceIdeal.S1 .f32) (x13 : FVec Ideal Cert.ReferenceIdeal.S128x128 .f32) (x14 : FVec Ideal Cert.ReferenceIdeal.S128 .f32) (x15 : FVec Ideal Cert.ReferenceIdeal.S128x64 .f32) (x16 : FVec Ideal Cert.ReferenceIdeal.S64 .f32)
  (y2 : FVec Ideal Cert.KernelIdeal.S1x64 .f32) (y4 : FVec Ideal Cert.KernelIdeal.S1x32 .f32) (y6 : FVec Ideal Cert.KernelIdeal.S1x128 .f32) (y8 : FVec Ideal Cert.KernelIdeal.S1x64 .f32) (y10 : FVec Ideal Cert.KernelIdeal.S1x32 .f32) (y12 : FVec Ideal Cert.KernelIdeal.S1x1 .f32) (y14 : FVec Ideal Cert.KernelIdeal.S1x128 .f32) (y16 : FVec Ideal Cert.KernelIdeal.S1x64 .f32)

/-- Arrays of three axes that agree at every index are equal. -/
theorem cube_inj {l m n : ℕ} (x y : FVec Ideal (⟨3, ![l, m, n]⟩ : Shape) .f32) (h : ∀ b i j, x (ix3 b i j) = y (ix3 b i j)) : x = y := by
  funext k
  have e : k = ix3 (k 0) (k 1) (k 2) := by funext a; fin_cases a <;> rfl
  rw [e]
  exact h _ _ _

/-- A bias given a leading unit axis holds the same numbers. -/
theorem bias_eq {n : ℕ} (x : FVec Ideal (⟨1, ![n]⟩ : Shape) .f32) (h : (⟨1, ![n]⟩ : Shape).ShapeCasts ⟨2, ![1, n]⟩) :
    only (shapeCast ⟨2, ![1, n]⟩ x h) = vec x := by
  funext j
  refine (Idealize.ShloMosaic.shapeCast_addUnit_apply ![n] x h (ix2 0 j)).trans (congrArg x ?_)
  funext a
  fin_cases a
  rfl

/-- The second result. -/
theorem second (h4 : only y4 = vec x4) : Cert.KernelIdeal.Gen.out0_18 (F := Ideal) x0 x1 y2 x3 y4 x5 y6 x7 y8 x9 y10 x11 y12 x13 y14 x15 y16 =
    Cert.ReferenceIdeal.Read.val_main_v15 (F := Ideal) x0 x3 x4 := by
  rw [KBlock.out18_eq]
  refine cube_inj (l := 16) (m := 128) (n := 128) _ _ fun b i j => ?_
  have h : cube (m := 128) (n := 128) (Cert.KernelIdeal.Gen.k0_pay165 (F := Ideal) x0 x1 y2 x3 y4 x5 y6 x7 y8 x9 y10 x11 y12 x13 y14 x15 y16) =
      cube (m := 128) (n := 128) (Cert.ReferenceIdeal.Read.val_main_v15 (F := Ideal) x0 x3 x4) := by
    rw [KBlock.selection, RefHead.v15_eq, RefHead.v13_eq, RefHead.v8_eq, h4]
  exact congrFun (congrFun (congrFun h b) i) j

/-- The first result. -/
theorem first (h2 : only y2 = vec x2) (h4 : only y4 = vec x4) (h6 : only y6 = vec x6) (h8 : only y8 = vec x8) (h10 : only y10 = vec x10) (h12 : only y12 = vec x12) (h14 : only y14 = vec x14) (h16 : only y16 = vec x16) : Cert.KernelIdeal.Gen.out0_17 (F := Ideal) x0 x1 y2 x3 y4 x5 y6 x7 y8 x9 y10 x11 y12 x13 y14 x15 y16 =
    Cert.ReferenceIdeal.Read.val_main_v71 (F := Ideal) x0 x1 x2 x3 x4 x5 x6 x7 x8 x9 x10 x11 x12 x13 x14 x15 x16 := by
  refine cube_inj (l := 16) (m := 128) (n := 64) _ _ fun b i j => ?_
  have h : cube (m := 128) (n := 64) (Cert.KernelIdeal.Gen.out0_17 (F := Ideal) x0 x1 y2 x3 y4 x5 y6 x7 y8 x9 y10 x11 y12 x13 y14 x15 y16) =
      cube (m := 128) (n := 64) (Cert.ReferenceIdeal.Read.val_main_v71 (F := Ideal) x0 x1 x2 x3 x4 x5 x6 x7 x8 x9 x10 x11 x12 x13 x14 x15 x16) := by
    rw [KBlock.output, KBlock.weights_eq, KBlock.nodes_eq, KBlock.rows_eq, KBlock.selection, RefTail.v71_eq, RefTail.v66_eq, RefTail.v58_eq,
      RefTail.v55_eq, RefTail.v42_eq, RefHead.v26_eq, RefHead.v25_eq, RefHead.v15_eq, RefHead.v13_eq, RefHead.v8_eq, RefHead.v4_eq,
      h2, h4, h6, h8, h10, h12, h14, h16]
  exact congrFun (congrFun (congrFun h b) i) j

end Cert.Proof.Equation
-- ==== Proof.KValue.lean ====
module

public import proofs.«01_k».proof.Proof.Gen.KernelIdeal.Value

@[expose] public section

set_option maxRecDepth 16384

/-!
# What the result arrays hold after the run
-/

noncomputable section

open Idealize.ShloMosaic Idealize.ShloMosaic.TcCoe Idealize.SL.Sem

namespace Cert.Proof.KValue

open Cert.KernelIdeal Cert.KernelIdeal.Gen

variable (m : (ℓ : Loc nD τ sig) → Buf (Elt Ideal) ℓ) (c : Dev nD)

/-- A block as large as its array, at block index zero, is the array. -/
theorem whole (b : Ref sig .tc) (i : Fin b.ty.shape.rank → ℕ) (h : ∀ a, i a = 0)
    (inb : ∀ a, i a * b.ty.shape.size a + b.ty.shape.size a ≤ b.ty.shape.size a) (f : b.ty.Contents (Elt Ideal)) :
    ((Memref.whole b).access (Rect.unit (fun a => i a * b.ty.shape.size a) b.ty.shape.size inb) : View sig .tc _ _ _).read (Elt Ideal) f = f :=
  Memref.read_access_unit_zero (Elt Ideal) b (funext fun a => by rw [h a, Nat.zero_mul]) inb f

/-- The one grid point. -/
abbrev pt : Fin cfg0.N := ⟨0, by decide⟩

/-- Window 0 stages the argument 0. -/
theorem block0 : iblk m c 0 pt = m ((c : Thread nD τ).loc main_arg0) :=
  (whole main_arg0 (win0_0.index pt) (fun a => by fin_cases a <;> rfl) _ _).trans (V_main_arg0 m c)

/-- Window 1 stages the argument 1. -/
theorem block1 : iblk m c 1 pt = m ((c : Thread nD τ).loc main_arg1) :=
  (whole main_arg1 (win0_1.index pt) (fun a => by fin_cases a <;> rfl) _ _).trans (V_main_arg1 m c)

/-- Window 2 stages the bias main_v0: the argument with a leading unit axis. -/
theorem block2 : iblk m c 2 pt = shapeCast S1x64 (m ((c : Thread nD τ).loc main_arg2)) shapeCasts_S64_S1x64 :=
  whole main_v0 (win0_2.index pt) (fun a => by fin_cases a <;> rfl) _ _

/-- Window 3 stages the argument 3. -/
theorem block3 : iblk m c 3 pt = m ((c : Thread nD τ).loc main_arg3) :=
  (whole main_arg3 (win0_3.index pt) (fun a => by fin_cases a <;> rfl) _ _).trans (V_main_arg3 m c)

/-- Window 4 stages the bias main_v1: the argument with a leading unit axis. -/
theorem block4 : iblk m c 4 pt = shapeCast S1x32 (m ((c : Thread nD τ).loc main_arg4)) shapeCasts_S32_S1x32 :=
  whole main_v1 (win0_4.index pt) (fun a => by fin_cases a <;> rfl) _ _

/-- Window 5 stages the argument 5. -/
theorem block5 : iblk m c 5 pt = m ((c : Thread nD τ).loc main_arg5) :=
  (whole main_arg5 (win0_5.index pt) (fun a => by fin_cases a <;> rfl) _ _).trans (V_main_arg5 m c)

/-- Window 6 stages the bias main_v2: the argument with a leading unit axis. -/
theorem block6 : iblk m c 6 pt = shapeCast S1x128 (m ((c : Thread nD τ).loc main_arg6)) shapeCasts_S128_S1x128 :=
  whole main_v2 (win0_6.index pt) (fun a => by fin_cases a <;> rfl) _ _

/-- Window 7 stages the argument 7. -/
theorem block7 : iblk m c 7 pt = m ((c : Thread nD τ).loc main_arg7) :=
  (whole main_arg7 (win0_7.index pt) (fun a => by fin_cases a <;> rfl) _ _).trans (V_main_arg7 m c)

/-- Window 8 stages the bias main_v3: the argument with a leading unit axis. -/
theorem block8 : iblk m c 8 pt = shapeCast S1x64 (m ((c : Thread nD τ).loc main_arg8)) shapeCasts_S64_S1x64 :=
  whole main_v3 (win0_8.index pt) (fun a => by fin_cases a <;> rfl) _ _

/-- Window 9 stages the argument 9. -/
theorem block9 : iblk m c 9 pt = m ((c : Thread nD τ).loc main_arg9) :=
  (whole main_arg9 (win0_9.index pt) (fun a => by fin_cases a <;> rfl) _ _).trans (V_main_arg9 m c)

/-- Window 10 stages the bias main_v4: the argument with a leading unit axis. -/
theorem block10 : iblk m c 10 pt = shapeCast S1x32 (m ((c : Thread nD τ).loc main_arg10)) shapeCasts_S32_S1x32 :=
  whole main_v4 (win0_10.index pt) (fun a => by fin_cases a <;> rfl) _ _

/-- Window 11 stages the argument 11. -/
theorem block11 : iblk m c 11 pt = m ((c : Thread nD τ).loc main_arg11) :=
  (whole main_arg11 (win0_11.index pt) (fun a => by fin_cases a <;> rfl) _ _).trans (V_main_arg11 m c)

/-- Window 12 stages the bias main_v5: the argument with a leading unit axis. -/
theorem block12 : iblk m c 12 pt = shapeCast S1x1 (m ((c : Thread nD τ).loc main_arg12)) shapeCasts_S1_S1x1 :=
  whole main_v5 (win0_12.index pt) (fun a => by fin_cases a <;> rfl) _ _

/-- Window 13 stages the argument 13. -/
theorem block13 : iblk m c 13 pt = m ((c : Thread nD τ).loc main_arg13) :=
  (whole main_arg13 (win0_13.index pt) (fun a => by fin_cases a <;> rfl) _ _).trans (V_main_arg13 m c)

/-- Window 14 stages the bias main_v6: the argument with a leading unit axis. -/
theorem block14 : iblk m c 14 pt = shapeCast S1x128 (m ((c : Thread nD τ).loc main_arg14)) shapeCasts_S128_S1x128 :=
  whole main_v6 (win0_14.index pt) (fun a => by fin_cases a <;> rfl) _ _

/-- Window 15 stages the argument 15. -/
theorem block15 : iblk m c 15 pt = m ((c : Thread nD τ).loc main_arg15) :=
  (whole main_arg15 (win0_15.index pt) (fun a => by fin_cases a <;> rfl) _ _).trans (V_main_arg15 m c)

/-- Window 16 stages the bias main_v7: the argument with a leading unit axis. -/
theorem block16 : iblk m c 16 pt = shapeCast S1x64 (m ((c : Thread nD τ).loc main_arg16)) shapeCasts_S64_S1x64 :=
  whole main_v7 (win0_16.index pt) (fun a => by fin_cases a <;> rfl) _ _

/-- The result array 0 after the run is the block that the one grid point leaves. -/
theorem final17 : (dats m 0 c).arrAt 17 cfg0.N = out0_17 (F := Ideal)
    (m ((c : Thread nD τ).loc main_arg0)) (m ((c : Thread nD τ).loc main_arg1)) (shapeCast S1x64 (m ((c : Thread nD τ).loc main_arg2)) shapeCasts_S64_S1x64) (m ((c : Thread nD τ).loc main_arg3)) (shapeCast S1x32 (m ((c : Thread nD τ).loc main_arg4)) shapeCasts_S32_S1x32) (m ((c : Thread nD τ).loc main_arg5)) (shapeCast S1x128 (m ((c : Thread nD τ).loc main_arg6)) shapeCasts_S128_S1x128) (m ((c : Thread nD τ).loc main_arg7)) (shapeCast S1x64 (m ((c : Thread nD τ).loc main_arg8)) shapeCasts_S64_S1x64) (m ((c : Thread nD τ).loc main_arg9)) (shapeCast S1x32 (m ((c : Thread nD τ).loc main_arg10)) shapeCasts_S32_S1x32) (m ((c : Thread nD τ).loc main_arg11)) (shapeCast S1x1 (m ((c : Thread nD τ).loc main_arg12)) shapeCasts_S1_S1x1) (m ((c : Thread nD τ).loc main_arg13)) (shapeCast S1x128 (m ((c : Thread nD τ).loc main_arg14)) shapeCasts_S128_S1x128) (m ((c : Thread nD τ).loc main_arg15)) (shapeCast S1x64 (m ((c : Thread nD τ).loc main_arg16)) shapeCasts_S64_S1x64) := by
  refine ((whole main_v8_0 (win0_17.index pt) (fun a => by fin_cases a <;> rfl) _ ((dats m 0 c).arrAt 17 cfg0.N)).symm.trans
    ((Cert.KernelIdeal.Value.blocks17 m c pt (flush0_17 pt)).trans (Cert.KernelIdeal.Value.flushed17 m c pt))).trans ?_
  rw [block0, block1, block2, block3, block4, block5, block6, block7, block8, block9, block10, block11, block12, block13, block14, block15, block16]
  rfl

/-- The result array 1 after the run is the block that the one grid point leaves. -/
theorem final18 : (dats m 0 c).arrAt 18 cfg0.N = out0_18 (F := Ideal)
    (m ((c : Thread nD τ).loc main_arg0)) (m ((c : Thread nD τ).loc main_arg1)) (shapeCast S1x64 (m ((c : Thread nD τ).loc main_arg2)) shapeCasts_S64_S1x64) (m ((c : Thread nD τ).loc main_arg3)) (shapeCast S1x32 (m ((c : Thread nD τ).loc main_arg4)) shapeCasts_S32_S1x32) (m ((c : Thread nD τ).loc main_arg5)) (shapeCast S1x128 (m ((c : Thread nD τ).loc main_arg6)) shapeCasts_S128_S1x128) (m ((c : Thread nD τ).loc main_arg7)) (shapeCast S1x64 (m ((c : Thread nD τ).loc main_arg8)) shapeCasts_S64_S1x64) (m ((c : Thread nD τ).loc main_arg9)) (shapeCast S1x32 (m ((c : Thread nD τ).loc main_arg10)) shapeCasts_S32_S1x32) (m ((c : Thread nD τ).loc main_arg11)) (shapeCast S1x1 (m ((c : Thread nD τ).loc main_arg12)) shapeCasts_S1_S1x1) (m ((c : Thread nD τ).loc main_arg13)) (shapeCast S1x128 (m ((c : Thread nD τ).loc main_arg14)) shapeCasts_S128_S1x128) (m ((c : Thread nD τ).loc main_arg15)) (shapeCast S1x64 (m ((c : Thread nD τ).loc main_arg16)) shapeCasts_S64_S1x64) := by
  refine ((whole main_v8_1 (win0_18.index pt) (fun a => by fin_cases a <;> rfl) _ ((dats m 0 c).arrAt 18 cfg0.N)).symm.trans
    ((Cert.KernelIdeal.Value.blocks18 m c pt (flush0_18 pt)).trans (Cert.KernelIdeal.Value.flushed18 m c pt))).trans ?_
  rw [block0, block1, block2, block3, block4, block5, block6, block7, block8, block9, block10, block11, block12, block13, block14, block15, block16]
  rfl

end Cert.Proof.KValue
-- ==== Proof.Algebraic.lean ====
module

public import proofs.«01_k».proof.Defs
public import proofs.«01_k».proof.Proof.Equation
public import proofs.«01_k».proof.Proof.KValue
public import proofs.«01_k».proof.Proof.Gen.ReferenceIdeal.Run

@[expose] public section

set_option maxRecDepth 16384

/-!
# The idealized kernel and the reference leave equal results
-/

noncomputable section

open Idealize.ShloMosaic Idealize.ShloMosaic.TcCoe Idealize.SL.Sem

namespace Cert.Proof.Algebraic

/-- From memories with equal arguments, the kernel's two result arrays and the reference's are equal. -/
theorem algebraic : Cert.algebraic_KernelIdeal_ReferenceIdeal := by
  intro m g m' g' _ hargs
  refine ⟨fun c => Cert.ReferenceIdeal.Read.val_main_v71 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)),
    fun c => Cert.ReferenceIdeal.Read.val_main_v15 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)), ?_, ?_⟩
  · refine (θ_run _ _ _).mono (fun r h c => ⟨(h c).1.trans ?_, (h c).2.1.trans ?_, (h c).2.2⟩) (Cert.KernelIdeal.Value.run_blocks (F := Ideal) m g)
    · clear h
      obtain ⟨e0, e1, e2, e3, e4, e5, e6, e7, e8, e9, e10, e11, e12, e13, e14, e15, e16⟩ := hargs c
      clear hargs
      beta_reduce
      rw [KValue.final17, e0, e1, e2, e3, e4, e5, e6, e7, e8, e9, e10, e11, e12, e13, e14, e15, e16]
      exact Equation.first _ _ _ _ _ _ _ _ _ _ _ _ _ _ _ _ _ _ _ _ _ _ _ _ _ (Equation.bias_eq _ _) (Equation.bias_eq _ _) (Equation.bias_eq _ _) (Equation.bias_eq _ _) (Equation.bias_eq _ _) (Equation.bias_eq _ _) (Equation.bias_eq _ _) (Equation.bias_eq _ _)
    · clear h
      obtain ⟨e0, e1, e2, e3, e4, e5, e6, e7, e8, e9, e10, e11, e12, e13, e14, e15, e16⟩ := hargs c
      clear hargs
      beta_reduce
      rw [KValue.final18, e0, e3, e4]
      exact Equation.second _ _ _ _ _ _ _ _ _ _ _ _ _ _ _ _ _ _ (Equation.bias_eq _ _)
  · refine (θ_run _ _ _).mono (fun r h c => ⟨(h c).1.trans ?_, (h c).2.1.trans ?_, (h c).2.2⟩) (Cert.ReferenceIdeal.Value.run (F := Ideal) m' g')
    · exact Cert.ReferenceIdeal.Read.val_main_v71_eq m' c
    · exact Cert.ReferenceIdeal.Read.val_main_v15_eq _ _ _

end Cert.Proof.Algebraic
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Claims
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts,
    Claims.frame_kernel, Claims.frame_ideal, Claims.frame_reference, Claims.preserves, Algebraic.algebraic⟩

end Cert.Proof

end
